-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_a_log_as_drawn [hPre_a_log_as_drawn : Cert.Pre_a_log_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_a_log_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_a_log_as_drawn [hPre_a_log_as_drawn : Cert.Pre_a_log_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_a_log_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_a_log_as_drawn [hKernelIdeal : Cert.KernelIdeal.Facts] [hPre_a_log_as_drawn : Cert.Pre_a_log_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_a_log_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_a_log_as_drawn [hReferenceIdeal : Cert.ReferenceIdeal.Facts] [hPre_a_log_as_drawn : Cert.Pre_a_log_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_a_log_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_a_log_as_drawn [hKernelIdeal : Cert.KernelIdeal.Facts] [hReferenceIdeal : Cert.ReferenceIdeal.Facts] [hPre_a_log_as_drawn : Cert.Pre_a_log_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_a_log_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_a_log_as_drawn : Cert.Pre_a_log_as_drawn.Facts),
    quiescent_Kernel (hKernel := hKernel)
    ∧ quiescent_KernelIdeal (hKernelIdeal := hKernelIdeal)
    ∧ quiescent_KernelIdeal_pre_a_log_as_drawn (hKernelIdeal := hKernelIdeal) (hPre_a_log_as_drawn := hPre_a_log_as_drawn)
    ∧ quiescent_ReferenceIdeal (hReferenceIdeal := hReferenceIdeal)
    ∧ quiescent_ReferenceIdeal_pre_a_log_as_drawn (hReferenceIdeal := hReferenceIdeal) (hPre_a_log_as_drawn := hPre_a_log_as_drawn)
    ∧ preserves_Kernel_KernelIdeal
    ∧ algebraic_KernelIdeal_ReferenceIdeal_pre_a_log_as_drawn (hKernelIdeal := hKernelIdeal) (hReferenceIdeal := hReferenceIdeal) (hPre_a_log_as_drawn := hPre_a_log_as_drawn)
-- ==== Pre_a_log_as_drawn.lean ====
abbrev S4x2048x1024 : Shape := ⟨3, ![4, 2048, 1024]⟩
abbrev S4096x1024 : Shape := ⟨2, ![4096, 1024]⟩
abbrev S2048x1x4 : Shape := ⟨3, ![2048, 1, 4]⟩
abbrev S2048 : Shape := ⟨1, ![2048]⟩
abbrev S2080x2048 : Shape := ⟨2, ![2080, 2048]⟩
abbrev S2048x16 : Shape := ⟨2, ![2048, 16]⟩
abbrev S1024x2048 : Shape := ⟨2, ![1024, 2048]⟩
abbrev S_ : Shape := ⟨0, ![]⟩

class Facts : Prop where
  bcast_S_S2048x16 : S_.BroadcastsInDim S2048x16 (![] : Fin 0 → Fin S2048x16.rank)

variable [Facts]

def fn {F : FTy → Type} [FloatOps F] (main_arg0 : FVec F S4x2048x1024 .f32) (main_arg1 : FVec F S4096x1024 .f32) (main_arg2 : FVec F S2048x1x4 .f32) (main_arg3 : FVec F S2048 .f32) (main_arg4 : FVec F S2080x2048 .f32) (main_arg5 : FVec F S2048x16 .f32) (main_arg6 : FVec F S2048 .f32) (main_arg7 : FVec F S2048x16 .f32) (main_arg8 : FVec F S2048 .f32) (main_arg9 : FVec F S1024x2048 .f32) : IVec S2048x16 1 :=
  let main_v0 : IVec S2048x16 32 := iotaInDim S2048x16 32 1
  let main_c : IVec S_ 32 := constantI S_ 32 1#32
  let main_v1 : IVec S2048x16 32 := broadcastInDim S2048x16 ![] bcast_S_S2048x16 main_c
  let main_v2 : IVec S2048x16 32 := addi main_v0 main_v1
  let main_v3 : FVec F S2048x16 .f32 := sitofp .f32 main_v2
  let main_v4 : FVec F S2048x16 .f32 := Host.log main_v3
  let main_v5 : IVec S2048x16 1 := cmpf .oeq main_arg7 main_v4
  main_v5
-- ==== Kernel.lean ====
abbrev S4x2048x1024 : Shape := ⟨3, ![4, 2048, 1024]⟩
abbrev S4096x1024 : Shape := ⟨2, ![4096, 1024]⟩
abbrev S2048x1x4 : Shape := ⟨3, ![2048, 1, 4]⟩
abbrev S2048 : Shape := ⟨1, ![2048]⟩
abbrev S2080x2048 : Shape := ⟨2, ![2080, 2048]⟩
abbrev S2048x16 : Shape := ⟨2, ![2048, 16]⟩
abbrev S1024x2048 : Shape := ⟨2, ![1024, 2048]⟩
abbrev S2048x4 : Shape := ⟨2, ![2048, 4]⟩
abbrev S4x2048 : Shape := ⟨2, ![4, 2048]⟩
abbrev S1x2048 : Shape := ⟨2, ![1, 2048]⟩
abbrev S4x2048x4096 : Shape := ⟨3, ![4, 2048, 4096]⟩
abbrev S_ : Shape := ⟨0, ![]⟩
abbrev S16 : Shape := ⟨1, ![16]⟩
abbrev S16x1 : Shape := ⟨2, ![16, 1]⟩
abbrev S16x2048 : Shape := ⟨2, ![16, 2048]⟩
abbrev S32x2048 : Shape := ⟨2, ![32, 2048]⟩
abbrev S2048x2048 : Shape := ⟨2, ![2048, 2048]⟩
abbrev S4x2048x2048 : Shape := ⟨3, ![4, 2048, 2048]⟩
abbrev S1x2048x1024 : Shape := ⟨3, ![1, 2048, 1024]⟩
abbrev S512x1024 : Shape := ⟨2, ![512, 1024]⟩
abbrev S4x512 : Shape := ⟨2, ![4, 512]⟩
abbrev S1x512 : Shape := ⟨2, ![1, 512]⟩
abbrev S1x2048x512 : Shape := ⟨3, ![1, 2048, 512]⟩
abbrev S2048x1024 : Shape := ⟨2, ![2048, 1024]⟩
abbrev S2048x512 : Shape := ⟨2, ![2048, 512]⟩
abbrev S3x512 : Shape := ⟨2, ![3, 512]⟩
abbrev S2051x512 : Shape := ⟨2, ![2051, 512]⟩
abbrev S1x128x2048 : Shape := ⟨3, ![1, 128, 2048]⟩
abbrev S128x16x128 : Shape := ⟨3, ![128, 16, 128]⟩
abbrev S16x16x2048 : Shape := ⟨3, ![16, 16, 2048]⟩
abbrev S128x2048 : Shape := ⟨2, ![128, 2048]⟩
abbrev S128x32 : Shape := ⟨2, ![128, 32]⟩
abbrev S128x16 : Shape := ⟨2, ![128, 16]⟩
abbrev S16x16x128 : Shape := ⟨3, ![16, 16, 128]⟩
abbrev S16x1x2048 : Shape := ⟨3, ![16, 1, 2048]⟩
abbrev S1x16x2048 : Shape := ⟨3, ![1, 16, 2048]⟩
abbrev S16x1024 : Shape := ⟨2, ![16, 1024]⟩
abbrev S16x512 : Shape := ⟨2, ![16, 512]⟩
abbrev S16x256 : Shape := ⟨2, ![16, 256]⟩
abbrev S16x128 : Shape := ⟨2, ![16, 128]⟩
abbrev S1x16x128 : Shape := ⟨3, ![1, 16, 128]⟩
abbrev S1x512x2048 : Shape := ⟨3, ![1, 512, 2048]⟩
abbrev S1x512x1024 : Shape := ⟨3, ![1, 512, 1024]⟩
abbrev S512x2048 : Shape := ⟨2, ![512, 2048]⟩

abbrev nBuf : Space → Nat
  | .hbm => 47
  | .vmem => 34
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S2048x1x4, .f32⟩
  | .hbm, ⟨3, _⟩ => ⟨S2048, .f32⟩
  | .hbm, ⟨4, _⟩ => ⟨S2080x2048, .f32⟩
  | .hbm, ⟨5, _⟩ => ⟨S2048x16, .f32⟩
  | .hbm, ⟨6, _⟩ => ⟨S2048, .f32⟩
  | .hbm, ⟨7, _⟩ => ⟨S2048x16, .f32⟩
  | .hbm, ⟨8, _⟩ => ⟨S2048, .f32⟩
  | .hbm, ⟨9, _⟩ => ⟨S1024x2048, .f32⟩
  | .hbm, ⟨10, _⟩ => ⟨S2048x4, .f32⟩
  | .hbm, ⟨11, _⟩ => ⟨S4x2048, .f32⟩
  | .hbm, ⟨12, _⟩ => ⟨S1x2048, .f32⟩
  | .hbm, ⟨13, _⟩ => ⟨S4x2048x4096, .f32⟩
  | .hbm, ⟨14, _⟩ => ⟨S2048, .i32⟩
  | .hbm, ⟨15, _⟩ => ⟨S1x2048, .i32⟩
  | .hbm, ⟨16, _⟩ => ⟨S_, .i32⟩
  | .hbm, ⟨17, _⟩ => ⟨S_, .i32⟩
  | .hbm, ⟨18, _⟩ => ⟨S1x2048, .i32⟩
  | .hbm, ⟨19, _⟩ => ⟨S1x2048, .i32⟩
  | .hbm, ⟨20, _⟩ => ⟨S1x2048, .i32⟩
  | .hbm, ⟨21, _⟩ => ⟨S_, .i32⟩
  | .hbm, ⟨22, _⟩ => ⟨S1x2048, .i32⟩
  | .hbm, ⟨23, _⟩ => ⟨S1x2048, .i1⟩
  | .hbm, ⟨24, _⟩ => ⟨S1x2048, .i32⟩
  | .hbm, ⟨25, _⟩ => ⟨S1x2048, .i32⟩
  | .hbm, ⟨26, _⟩ => ⟨S_, .i32⟩
  | .hbm, ⟨27, _⟩ => ⟨S1x2048, .i32⟩
  | .hbm, ⟨28, _⟩ => ⟨S1x2048, .i1⟩
  | .hbm, ⟨29, _⟩ => ⟨S1x2048, .i1⟩
  | .hbm, ⟨30, _⟩ => ⟨S_, .i32⟩
  | .hbm, ⟨31, _⟩ => ⟨S1x2048, .i32⟩
  | .hbm, ⟨32, _⟩ => ⟨S1x2048, .i32⟩
  | .hbm, ⟨33, _⟩ => ⟨S1x2048, .i32⟩
  | .hbm, ⟨34, _⟩ => ⟨S16, .i32⟩
  | .hbm, ⟨35, _⟩ => ⟨S16x1, .i32⟩
  | .hbm, ⟨36, _⟩ => ⟨S16x2048, .i32⟩
  | .hbm, ⟨37, _⟩ => ⟨S16x2048, .i32⟩
  | .hbm, ⟨38, _⟩ => ⟨S16x2048, .i1⟩
  | .hbm, ⟨39, _⟩ => ⟨S16x2048, .f32⟩
  | .hbm, ⟨40, _⟩ => ⟨S16x2048, .f32⟩
  | .hbm, ⟨41, _⟩ => ⟨S1x2048, .f32⟩
  | .hbm, ⟨42, _⟩ => ⟨S1x2048, .f32⟩
  | .hbm, ⟨43, _⟩ => ⟨S32x2048, .f32⟩
  | .hbm, ⟨44, _⟩ => ⟨S2048x2048, .f32⟩
  | .hbm, ⟨45, _⟩ => ⟨S4x2048x2048, .f32⟩
  | .hbm, ⟨46, _⟩ => ⟨S4x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S512x1024, .f32⟩
  | .local _ .vmem, ⟨3, _⟩ => ⟨S512x1024, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S1x2048x512, .f32⟩
  | .local _ .vmem, ⟨9, _⟩ => ⟨S1x2048x512, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S32x2048, .f32⟩
  | .local _ .vmem, ⟨15, _⟩ => ⟨S2048x2048, .f32⟩
  | .local _ .vmem, ⟨16, _⟩ => ⟨S16x2048, .f32⟩
  | .local _ .vmem, ⟨17, _⟩ => ⟨S1x2048, .f32⟩
  | .local _ .vmem, ⟨18, _⟩ => ⟨S16x2048, .f32⟩
  | .local _ .vmem, ⟨19, _⟩ => ⟨S1x2048, .f32⟩
  | .local _ .vmem, ⟨20, _⟩ => ⟨S1x128x2048, .f32⟩
  | .local _ .vmem, ⟨21, _⟩ => ⟨S1x128x2048, .f32⟩
  | .local _ .vmem, ⟨22, _⟩ => ⟨S16x2048, .f32⟩
  | .local _ .vmem, ⟨23, _⟩ => ⟨S128x16x128, .f32⟩
  | .local _ .vmem, ⟨24, _⟩ => ⟨S16x16x2048, .f32⟩
  | .local _ .vmem, ⟨25, _⟩ => ⟨S16x16x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S1x512x2048, .f32⟩
  | .local _ .vmem, ⟨30, _⟩ => ⟨S1x512x2048, .f32⟩
  | .local _ .vmem, ⟨31, _⟩ => ⟨S1024x2048, .f32⟩
  | .local _ .vmem, ⟨32, _⟩ => ⟨S1x512x1024, .f32⟩
  | .local _ .vmem, ⟨33, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_c : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_c_0 : Ref sig .tc := ⟨.hbm, 30, rfl⟩
abbrev main_call0_call0_v12 : Ref sig .tc := ⟨.hbm, 31, rfl⟩
abbrev main_call0_call0_v13 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_v15 : Ref sig .tc := ⟨.hbm, 42, rfl⟩
abbrev main_call0_v16 : Ref sig .tc := ⟨.hbm, 43, rfl⟩
abbrev main_call0_v17 : Ref sig .tc := ⟨.hbm, 44, rfl⟩
abbrev main_call0_v18 : Ref sig .tc := ⟨.hbm, 45, rfl⟩
abbrev main_v0 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc1_scratch4 : Ref sig .tc := ⟨.vmem, 26, rfl⟩
abbrev cc1_scratch5 : Ref sig .tc := ⟨.vmem, 27, rfl⟩
abbrev cc1_scratch6 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c4_i32 : BitVec 32 := 4#32
  let v4 : BitVec 1 := Scalar.cmpi .slt arg1 c4_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c4_i32_4 : BitVec 32 := 4#32
  let v7 : BitVec 1 := Scalar.cmpi .sge arg1 c4_i32_4
  let v8 : BitVec 32 := Scalar.extui v7
  let c0_i32_5 : BitVec 32 := 0#32
  let v9 : BitVec 1 := Scalar.cmpi .ne v8 c0_i32_5
  v9

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 16], ![false, false]⟩

@[reducible] def k1_t1_loop : Scf.Loop 32 :=
  let c0_i32_35 : BitVec 32 := 0#32
  let c16_i32 : BitVec 32 := 16#32
  let v81 : BitVec 32 := Scalar.addi c0_i32_35 c16_i32
  let c1_i32 : BitVec 32 := 1#32
  ⟨c0_i32_35, v81, c1_i32⟩
def k1_off1 (k1_t1 : Fin k1_t1_loop.trips) : Fin 3 → Nat :=
  let c0_i32_35 : BitVec 32 := 0#32
  let c1_i32 : BitVec 32 := 1#32
  let arg18 : BitVec 32 := Scf.iv c0_i32_35 c1_i32 k1_t1
  let v352 : Index := Scalar.indexCast arg18
  let c0_150 : Index := 0#32
  let c0_151 : Index := 0#32
  ![v352.toNat, 0, 0]
def k1_off2 (k1_t1 : Fin k1_t1_loop.trips) : Fin 3 → Nat :=
  let c0_i32_156 : BitVec 32 := 0#32
  let c0_i32_35 : BitVec 32 := 0#32
  let c1_i32 : BitVec 32 := 1#32
  let arg18 : BitVec 32 := Scf.iv c0_i32_35 c1_i32 k1_t1
  let v375 : BitVec 32 := Scalar.addi c0_i32_156 arg18
  let v376 : Index := Scalar.indexCast v375
  let c0_157 : Index := 0#32
  let c0_158 : Index := 0#32
  ![v376.toNat, 0, 0]
@[reducible] def k1_t2_loop : Scf.Loop 32 :=
  let c0_i32_47 : BitVec 32 := 0#32
  let c16_i32_48 : BitVec 32 := 16#32
  let v117 : BitVec 32 := Scalar.addi c0_i32_47 c16_i32_48
  let c1_i32_49 : BitVec 32 := 1#32
  ⟨c0_i32_47, v117, c1_i32_49⟩
def k1_off3 (k1_t2 : Fin k1_t2_loop.trips) : Fin 3 → Nat :=
  let c0_i32_47 : BitVec 32 := 0#32
  let c1_i32_49 : BitVec 32 := 1#32
  let arg18 : BitVec 32 := Scf.iv c0_i32_47 c1_i32_49 k1_t2
  let v352 : Index := Scalar.indexCast arg18
  let c0_150 : Index := 0#32
  let c0_151 : Index := 0#32
  ![v352.toNat, 0, 0]
def k1_off4 (k1_t2 : Fin k1_t2_loop.trips) : Fin 3 → Nat :=
  let c16_i32_156 : BitVec 32 := 16#32
  let c0_i32_47 : BitVec 32 := 0#32
  let c1_i32_49 : BitVec 32 := 1#32
  let arg18 : BitVec 32 := Scf.iv c0_i32_47 c1_i32_49 k1_t2
  let v375 : BitVec 32 := Scalar.addi c16_i32_156 arg18
  let v376 : Index := Scalar.indexCast v375
  let c0_157 : Index := 0#32
  let c0_158 : Index := 0#32
  ![v376.toNat, 0, 0]
@[reducible] def k1_t3_loop : Scf.Loop 32 :=
  let c0_i32_61 : BitVec 32 := 0#32
  let c16_i32_62 : BitVec 32 := 16#32
  let v153 : BitVec 32 := Scalar.addi c0_i32_61 c16_i32_62
  let c1_i32_63 : BitVec 32 := 1#32
  ⟨c0_i32_61, v153, c1_i32_63⟩
def k1_off5 (k1_t3 : Fin k1_t3_loop.trips) : Fin 3 → Nat :=
  let c0_i32_61 : BitVec 32 := 0#32
  let c1_i32_63 : BitVec 32 := 1#32
  let arg18 : BitVec 32 := Scf.iv c0_i32_61 c1_i32_63 k1_t3
  let v352 : Index := Scalar.indexCast arg18
  let c0_150 : Index := 0#32
  let c0_151 : Index := 0#32
  ![v352.toNat, 0, 0]
def k1_off6 (k1_t3 : Fin k1_t3_loop.trips) : Fin 3 → Nat :=
  let c32_i32 : BitVec 32 := 32#32
  let c0_i32_61 : BitVec 32 := 0#32
  let c1_i32_63 : BitVec 32 := 1#32
  let arg18 : BitVec 32 := Scf.iv c0_i32_61 c1_i32_63 k1_t3
  let v375 : BitVec 32 := Scalar.addi c32_i32 arg18
  let v376 : Index := Scalar.indexCast v375
  let c0_156 : Index := 0#32
  let c0_157 : Index := 0#32
  ![v376.toNat, 0, 0]
@[reducible] def k1_t4_loop : Scf.Loop 32 :=
  let c0_i32_75 : BitVec 32 := 0#32
  let c16_i32_76 : BitVec 32 := 16#32
  let v189 : BitVec 32 := Scalar.addi c0_i32_75 c16_i32_76
  let c1_i32_77 : BitVec 32 := 1#32
  ⟨c0_i32_75, v189, c1_i32_77⟩
def k1_off7 (k1_t4 : Fin k1_t4_loop.trips) : Fin 3 → Nat :=
  let c0_i32_75 : BitVec 32 := 0#32
  let c1_i32_77 : BitVec 32 := 1#32
  let arg18 : BitVec 32 := Scf.iv c0_i32_75 c1_i32_77 k1_t4
  let v352 : Index := Scalar.indexCast arg18
  let c0_150 : Index := 0#32
  let c0_151 : Index := 0#32
  ![v352.toNat, 0, 0]
def k1_off8 (k1_t4 : Fin k1_t4_loop.trips) : Fin 3 → Nat :=
  let c48_i32 : BitVec 32 := 48#32
  let c0_i32_75 : BitVec 32 := 0#32
  let c1_i32_77 : BitVec 32 := 1#32
  let arg18 : BitVec 32 := Scf.iv c0_i32_75 c1_i32_77 k1_t4
  let v375 : BitVec 32 := Scalar.addi c48_i32 arg18
  let v376 : Index := Scalar.indexCast v375
  let c0_156 : Index := 0#32
  let c0_157 : Index := 0#32
  ![v376.toNat, 0, 0]
@[reducible] def k1_t5_loop : Scf.Loop 32 :=
  let c0_i32_89 : BitVec 32 := 0#32
  let c16_i32_90 : BitVec 32 := 16#32
  let v225 : BitVec 32 := Scalar.addi c0_i32_89 c16_i32_90
  let c1_i32_91 : BitVec 32 := 1#32
  ⟨c0_i32_89, v225, c1_i32_91⟩
def k1_off9 (k1_t5 : Fin k1_t5_loop.trips) : Fin 3 → Nat :=
  let c0_i32_89 : BitVec 32 := 0#32
  let c1_i32_91 : BitVec 32 := 1#32
  let arg18 : BitVec 32 := Scf.iv c0_i32_89 c1_i32_91 k1_t5
  let v352 : Index := Scalar.indexCast arg18
  let c0_150 : Index := 0#32
  let c0_151 : Index := 0#32
  ![v352.toNat, 0, 0]
def k1_off10 (k1_t5 : Fin k1_t5_loop.trips) : Fin 3 → Nat :=
  let c64_i32 : BitVec 32 := 64#32
  let c0_i32_89 : BitVec 32 := 0#32
  let c1_i32_91 : BitVec 32 := 1#32
  let arg18 : BitVec 32 := Scf.iv c0_i32_89 c1_i32_91 k1_t5
  let v375 : BitVec 32 := Scalar.addi c64_i32 arg18
  let v376 : Index := Scalar.indexCast v375
  let c0_156 : Index := 0#32
  let c0_157 : Index := 0#32
  ![v376.toNat, 0, 0]
@[reducible] def k1_t6_loop : Scf.Loop 32 :=
  let c0_i32_103 : BitVec 32 := 0#32
  let c16_i32_104 : BitVec 32 := 16#32
  let v261 : BitVec 32 := Scalar.addi c0_i32_103 c16_i32_104
  let c1_i32_105 : BitVec 32 := 1#32
  ⟨c0_i32_103, v261, c1_i32_105⟩
def k1_off11 (k1_t6 : Fin k1_t6_loop.trips) : Fin 3 → Nat :=
  let c0_i32_103 : BitVec 32 := 0#32
  let c1_i32_105 : BitVec 32 := 1#32
  let arg18 : BitVec 32 := Scf.iv c0_i32_103 c1_i32_105 k1_t6
  let v352 : Index := Scalar.indexCast arg18
  let c0_150 : Index := 0#32
  let c0_151 : Index := 0#32
  ![v352.toNat, 0, 0]
def k1_off12 (k1_t6 : Fin k1_t6_loop.trips) : Fin 3 → Nat :=
  let c80_i32 : BitVec 32 := 80#32
  let c0_i32_103 : BitVec 32 := 0#32
  let c1_i32_105 : BitVec 32 := 1#32
  let arg18 : BitVec 32 := Scf.iv c0_i32_103 c1_i32_105 k1_t6
  let v375 : BitVec 32 := Scalar.addi c80_i32 arg18
  let v376 : Index := Scalar.indexCast v375
  let c0_156 : Index := 0#32
  let c0_157 : Index := 0#32
  ![v376.toNat, 0, 0]
@[reducible] def k1_t7_loop : Scf.Loop 32 :=
  let c0_i32_117 : BitVec 32 := 0#32
  let c16_i32_118 : BitVec 32 := 16#32
  let v297 : BitVec 32 := Scalar.addi c0_i32_117 c16_i32_118
  let c1_i32_119 : BitVec 32 := 1#32
  ⟨c0_i32_117, v297, c1_i32_119⟩
def k1_off13 (k1_t7 : Fin k1_t7_loop.trips) : Fin 3 → Nat :=
  let c0_i32_117 : BitVec 32 := 0#32
  let c1_i32_119 : BitVec 32 := 1#32
  let arg18 : BitVec 32 := Scf.iv c0_i32_117 c1_i32_119 k1_t7
  let v352 : Index := Scalar.indexCast arg18
  let c0_150 : Index := 0#32
  let c0_151 : Index := 0#32
  ![v352.toNat, 0, 0]
def k1_off14 (k1_t7 : Fin k1_t7_loop.trips) : Fin 3 → Nat :=
  let c96_i32 : BitVec 32 := 96#32
  let c0_i32_117 : BitVec 32 := 0#32
  let c1_i32_119 : BitVec 32 := 1#32
  let arg18 : BitVec 32 := Scf.iv c0_i32_117 c1_i32_119 k1_t7
  let v375 : BitVec 32 := Scalar.addi c96_i32 arg18
  let v376 : Index := Scalar.indexCast v375
  let c0_156 : Index := 0#32
  let c0_157 : Index := 0#32
  ![v376.toNat, 0, 0]
@[reducible] def k1_t8_loop : Scf.Loop 32 :=
  let c0_i32_131 : BitVec 32 := 0#32
  let c16_i32_132 : BitVec 32 := 16#32
  let v333 : BitVec 32 := Scalar.addi c0_i32_131 c16_i32_132
  let c1_i32_133 : BitVec 32 := 1#32
  ⟨c0_i32_131, v333, c1_i32_133⟩
def k1_off15 (k1_t8 : Fin k1_t8_loop.trips) : Fin 3 → Nat :=
  let c0_i32_131 : BitVec 32 := 0#32
  let c1_i32_133 : BitVec 32 := 1#32
  let arg18 : BitVec 32 := Scf.iv c0_i32_131 c1_i32_133 k1_t8
  let v352 : Index := Scalar.indexCast arg18
  let c0_150 : Index := 0#32
  let c0_151 : Index := 0#32
  ![v352.toNat, 0, 0]
def k1_off16 (k1_t8 : Fin k1_t8_loop.trips) : Fin 3 → Nat :=
  let c112_i32 : BitVec 32 := 112#32
  let c0_i32_131 : BitVec 32 := 0#32
  let c1_i32_133 : BitVec 32 := 1#32
  let arg18 : BitVec 32 := Scf.iv c0_i32_131 c1_i32_133 k1_t8
  let v375 : BitVec 32 := Scalar.addi c112_i32 arg18
  let v376 : Index := Scalar.indexCast v375
  let c0_156 : Index := 0#32
  let c0_157 : Index := 0#32
  ![v376.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S32x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S2048x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S16x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S16x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x128x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S4x2048x1024 : Shape := ⟨3, ![4, 2048, 1024]⟩
abbrev S4096x1024 : Shape := ⟨2, ![4096, 1024]⟩
abbrev S2048x1x4 : Shape := ⟨3, ![2048, 1, 4]⟩
abbrev S2048 : Shape := ⟨1, ![2048]⟩
abbrev S2080x2048 : Shape := ⟨2, ![2080, 2048]⟩
abbrev S2048x16 : Shape := ⟨2, ![2048, 16]⟩
abbrev S1024x2048 : Shape := ⟨2, ![1024, 2048]⟩
abbrev S4x2048x4096 : Shape := ⟨3, ![4, 2048, 4096]⟩
abbrev S4x2048x2048 : Shape := ⟨3, ![4, 2048, 2048]⟩
abbrev S_ : Shape := ⟨0, ![]⟩
abbrev S4x2051x2048 : Shape := ⟨3, ![4, 2051, 2048]⟩
abbrev S2048x1x1 : Shape := ⟨3, ![2048, 1, 1]⟩
abbrev S1x1x2048 : Shape := ⟨3, ![1, 1, 2048]⟩
abbrev S4x2048x2080 : Shape := ⟨3, ![4, 2048, 2080]⟩
abbrev S4x2048x16 : Shape := ⟨3, ![4, 2048, 16]⟩
abbrev S2048x4x2048 : Shape := ⟨3, ![2048, 4, 2048]⟩
abbrev S2048x4x16 : Shape := ⟨3, ![2048, 4, 16]⟩
abbrev S1x4x2048 : Shape := ⟨3, ![1, 4, 2048]⟩
abbrev S4x2048 : Shape := ⟨2, ![4, 2048]⟩
abbrev S1x4x16 : Shape := ⟨3, ![1, 4, 16]⟩
abbrev S4x16 : Shape := ⟨2, ![4, 16]⟩
abbrev S4x2048x1 : Shape := ⟨3, ![4, 2048, 1]⟩
abbrev S1x2048x16 : Shape := ⟨3, ![1, 2048, 16]⟩
abbrev S4x1x16 : Shape := ⟨3, ![4, 1, 16]⟩

abbrev nBuf : Space → Nat
  | .hbm => 156
  | .vmem => 0
  | .smem => 0
  | _ => 0

abbrev hbmTy0_0 (i : Nat) : BufTy := match i % 128 with
  | 0 => ⟨S4x2048x1024, .f32⟩
  | 1 => ⟨S4096x1024, .f32⟩
  | 2 => ⟨S2048x1x4, .f32⟩
  | 3 => ⟨S2048, .f32⟩
  | 4 => ⟨S2080x2048, .f32⟩
  | 5 => ⟨S2048x16, .f32⟩
  | 6 => ⟨S2048, .f32⟩
  | 7 => ⟨S2048x16, .f32⟩
  | 8 => ⟨S2048, .f32⟩
  | 9 => ⟨S1024x2048, .f32⟩
  | 10 => ⟨S4x2048x4096, .f32⟩
  | 11 => ⟨S4x2048x2048, .f32⟩
  | 12 => ⟨S4x2048x2048, .f32⟩
  | 13 => ⟨S_, .i32⟩
  | 14 => ⟨S_, .f32⟩
  | 15 => ⟨S4x2051x2048, .f32⟩
  | 16 => ⟨S4x2048x2048, .f32⟩
  | 17 => ⟨S2048x1x1, .f32⟩
  | 18 => ⟨S2048, .f32⟩
  | 19 => ⟨S1x1x2048, .f32⟩
  | 20 => ⟨S4x2048x2048, .f32⟩
  | 21 => ⟨S4x2048x2048, .f32⟩
  | 22 => ⟨S_, .f32⟩
  | 23 => ⟨S4x2048x2048, .f32⟩
  | 24 => ⟨S4x2048x2048, .f32⟩
  | 25 => ⟨S4x2048x2048, .f32⟩
  | 26 => ⟨S2048x1x1, .f32⟩
  | 27 => ⟨S2048, .f32⟩
  | 28 => ⟨S1x1x2048, .f32⟩
  | 29 => ⟨S4x2048x2048, .f32⟩
  | 30 => ⟨S4x2048x2048, .f32⟩
  | 31 => ⟨S4x2048x2048, .f32⟩
  | 32 => ⟨S4x2048x2048, .f32⟩
  | 33 => ⟨S2048x1x1, .f32⟩
  | 34 => ⟨S2048, .f32⟩
  | 35 => ⟨S1x1x2048, .f32⟩
  | 36 => ⟨S4x2048x2048, .f32⟩
  | 37 => ⟨S4x2048x2048, .f32⟩
  | 38 => ⟨S4x2048x2048, .f32⟩
  | 39 => ⟨S4x2048x2048, .f32⟩
  | 40 => ⟨S2048x1x1, .f32⟩
  | 41 => ⟨S2048, .f32⟩
  | 42 => ⟨S1x1x2048, .f32⟩
  | 43 => ⟨S4x2048x2048, .f32⟩
  | 44 => ⟨S4x2048x2048, .f32⟩
  | 45 => ⟨S4x2048x2048, .f32⟩
  | 46 => ⟨S1x1x2048, .f32⟩
  | 47 => ⟨S4x2048x2048, .f32⟩
  | 48 => ⟨S4x2048x2048, .f32⟩
  | 49 => ⟨S4x2048x2048, .f32⟩
  | 50 => ⟨S4x2048x2048, .f32⟩
  | 51 => ⟨S_, .f32⟩
  | 52 => ⟨S4x2048x2048, .f32⟩
  | 53 => ⟨S4x2048x2048, .f32⟩
  | 54 => ⟨S_, .f32⟩
  | 55 => ⟨S4x2048x2048, .f32⟩
  | 56 => ⟨S4x2048x2048, .f32⟩
  | 57 => ⟨S4x2048x2048, .f32⟩
  | 58 => ⟨S4x2048x2080, .f32⟩
  | 59 => ⟨S4x2048x16, .f32⟩
  | 60 => ⟨S4x2048x16, .f32⟩
  | 61 => ⟨S4x2048x2048, .f32⟩
  | 62 => ⟨S4x2048x2048, .f32⟩
  | 63 => ⟨S1x1x2048, .f32⟩
  | 64 => ⟨S4x2048x2048, .f32⟩
  | 65 => ⟨S4x2048x2048, .f32⟩
  | 66 => ⟨S_, .f32⟩
  | 67 => ⟨S4x2048x2048, .f32⟩
  | 68 => ⟨S4x2048x2048, .f32⟩
  | 69 => ⟨S4x2048x2048, .f32⟩
  | 70 => ⟨S4x2048x2048, .f32⟩
  | 71 => ⟨S4x2048x2048, .i1⟩
  | 72 => ⟨S4x2048x2048, .f32⟩
  | 73 => ⟨S4x2048x2048, .f32⟩
  | 74 => ⟨S4x2048x2048, .f32⟩
  | 75 => ⟨S4x2048x2048, .f32⟩
  | 76 => ⟨S4x2048x2048, .f32⟩
  | 77 => ⟨S4x2048x2048, .f32⟩
  | 78 => ⟨S4x2048x2048, .f32⟩
  | 79 => ⟨S4x2048x2048, .f32⟩
  | 80 => ⟨S2048x16, .f32⟩
  | 81 => ⟨S2048x16, .f32⟩
  | 82 => ⟨S_, .f32⟩
  | 83 => ⟨S4x2048x16, .f32⟩
  | 84 => ⟨S2048x4x2048, .f32⟩
  | 85 => ⟨S2048x4x2048, .f32⟩
  | 86 => ⟨S2048x4x16, .f32⟩
  | 87 => ⟨S2048x4x2048, .f32⟩
  | 88 => ⟨S_, .f32⟩
  | 89 => ⟨S2048x4x2048, .f32⟩
  | 90 => ⟨S_, .i32⟩
  | 91 => ⟨S2048x4x2048, .f32⟩
  | 92 => ⟨S2048x4x2048, .f32⟩
  | 93 => ⟨S2048x4x16, .f32⟩
  | 94 => ⟨S2048x4x2048, .f32⟩
  | 95 => ⟨S2048x16, .f32⟩
  | 96 => ⟨S_, .i32⟩
  | 97 => ⟨S4x2048x16, .f32⟩
  | 98 => ⟨S2048x4x2048, .f32⟩
  | 99 => ⟨S_, .i32⟩
  | 100 => ⟨S_, .i1⟩
  | 101 => ⟨S_, .i32⟩
  | 102 => ⟨S_, .i32⟩
  | 103 => ⟨S1x4x2048, .f32⟩
  | 104 => ⟨S4x2048, .f32⟩
  | 105 => ⟨S_, .i32⟩
  | 106 => ⟨S_, .i32⟩
  | 107 => ⟨S1x4x2048, .f32⟩
  | 108 => ⟨S4x2048, .f32⟩
  | 109 => ⟨S_, .i32⟩
  | 110 => ⟨S_, .i32⟩
  | 111 => ⟨S1x4x16, .f32⟩
  | 112 => ⟨S4x16, .f32⟩
  | 113 => ⟨S_, .i32⟩
  | 114 => ⟨S_, .i32⟩
  | 115 => ⟨S1x4x2048, .f32⟩
  | 116 => ⟨S4x2048, .f32⟩
  | 117 => ⟨S4x2048x1, .f32⟩
  | 118 => ⟨S1x2048x16, .f32⟩
  | 119 => ⟨S4x2048x16, .f32⟩
  | 120 => ⟨S4x2048x16, .f32⟩
  | 121 => ⟨S4x2048x16, .f32⟩
  | 122 => ⟨S4x2048x16, .f32⟩
  | 123 => ⟨S4x2048x16, .f32⟩
  | 124 => ⟨S4x2048, .f32⟩
  | 125 => ⟨S4x2048x1, .f32⟩
  | 126 => ⟨S4x1x16, .f32⟩
  | 127 => ⟨S4x2048x16, .f32⟩
  | _ => ⟨S4x2048x1024, .f32⟩

abbrev hbmTy0_1 (i : Nat) : BufTy := match i % 128 with
  | 0 => ⟨S4x2048x16, .f32⟩
  | 1 => ⟨S4x2048x16, .f32⟩
  | 2 => ⟨S4x2048x16, .f32⟩
  | 3 => ⟨S_, .f32⟩
  | 4 => ⟨S4x2048, .f32⟩
  | 5 => ⟨S4x2048, .f32⟩
  | 6 => ⟨S1x4x2048, .f32⟩
  | 7 => ⟨S_, .i32⟩
  | 8 => ⟨S_, .i32⟩
  | 9 => ⟨S2048x4x2048, .f32⟩
  | 10 => ⟨S_, .i32⟩
  | 11 => ⟨S_, .i32⟩
  | 12 => ⟨S4x2048x2048, .f32⟩
  | 13 => ⟨S1x1x2048, .f32⟩
  | 14 => ⟨S4x2048x2048, .f32⟩
  | 15 => ⟨S4x2048x2048, .f32⟩
  | 16 => ⟨S4x2048x2048, .f32⟩
  | 17 => ⟨S4x2048x2048, .f32⟩
  | 18 => ⟨S4x2048x2048, .f32⟩
  | 19 => ⟨S_, .f32⟩
  | 20 => ⟨S4x2048x2048, .f32⟩
  | 21 => ⟨S4x2048x2048, .f32⟩
  | 22 => ⟨S_, .f32⟩
  | 23 => ⟨S4x2048x2048, .f32⟩
  | 24 => ⟨S4x2048x2048, .f32⟩
  | 25 => ⟨S4x2048x2048, .f32⟩
  | 26 => ⟨S4x2048x2048, .f32⟩
  | 27 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_0 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_1 : Ref sig .tc := ⟨.hbm, 88, rfl⟩
abbrev main_v53 : Ref sig .tc := ⟨.hbm, 89, rfl⟩
abbrev main_c_2 : Ref sig .tc := ⟨.hbm, 90, rfl⟩
abbrev main_v54_0 : Ref sig .tc := ⟨.hbm, 91, rfl⟩
abbrev main_v54_1 : Ref sig .tc := ⟨.hbm, 92, rfl⟩
abbrev main_v54_2 : Ref sig .tc := ⟨.hbm, 93, rfl⟩
abbrev main_v54_3 : Ref sig .tc := ⟨.hbm, 94, rfl⟩
abbrev main_v54_4 : Ref sig .tc := ⟨.hbm, 95, rfl⟩
abbrev main_v54_5 : Ref sig .tc := ⟨.hbm, 96, rfl⟩
abbrev main_v54_6 : Ref sig .tc := ⟨.hbm, 97, rfl⟩
abbrev main_v54_7 : Ref sig .tc := ⟨.hbm, 98, rfl⟩
abbrev main_while0c_c_10 : Ref sig .tc := ⟨.hbm, 99, rfl⟩
abbrev main_while0c_v63 : Ref sig .tc := ⟨.hbm, 100, rfl⟩
abbrev main_while0b_call3_c : Ref sig .tc := ⟨.hbm, 101, rfl⟩
abbrev main_while0b_call3_c_0 : Ref sig .tc := ⟨.hbm, 102, rfl⟩
abbrev main_while0b_call3_v0 : Ref sig .tc := ⟨.hbm, 103, rfl⟩
abbrev main_while0b_v63 : Ref sig .tc := ⟨.hbm, 104, rfl⟩
abbrev main_while0b_call4_c : Ref sig .tc := ⟨.hbm, 105, rfl⟩
abbrev main_while0b_call4_c_0 : Ref sig .tc := ⟨.hbm, 106, rfl⟩
abbrev main_while0b_call4_v0 : Ref sig .tc := ⟨.hbm, 107, rfl⟩
abbrev main_while0b_v64 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_v0 : Ref sig .tc := ⟨.hbm, 111, rfl⟩
abbrev main_while0b_v65 : Ref sig .tc := ⟨.hbm, 112, rfl⟩
abbrev main_while0b_call6_c : Ref sig .tc := ⟨.hbm, 113, rfl⟩
abbrev main_while0b_call6_c_0 : Ref sig .tc := ⟨.hbm, 114, rfl⟩
abbrev main_while0b_call6_v0 : Ref sig .tc := ⟨.hbm, 115, rfl⟩
abbrev main_while0b_v66 : Ref sig .tc := ⟨.hbm, 116, rfl⟩
abbrev main_while0b_v67 : Ref sig .tc := ⟨.hbm, 117, rfl⟩
abbrev main_while0b_v68 : Ref sig .tc := ⟨.hbm, 118, rfl⟩
abbrev main_while0b_v69 : Ref sig .tc := ⟨.hbm, 119, rfl⟩
abbrev main_while0b_v70 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_v79 : Ref sig .tc := ⟨.hbm, 129, rfl⟩
abbrev main_while0b_v80 : Ref sig .tc := ⟨.hbm, 130, rfl⟩
abbrev main_while0b_cst_10 : Ref sig .tc := ⟨.hbm, 131, rfl⟩
abbrev main_while0b_v81 : Ref sig .tc := ⟨.hbm, 132, rfl⟩
abbrev main_while0b_v82 : Ref sig .tc := ⟨.hbm, 133, rfl⟩
abbrev main_while0b_call7_v0 : Ref sig .tc := ⟨.hbm, 134, rfl⟩
abbrev main_while0b_call7_c : Ref sig .tc := ⟨.hbm, 135, rfl⟩
abbrev main_while0b_call7_c_0 : Ref sig .tc := ⟨.hbm, 136, rfl⟩
abbrev main_while0b_v83 : Ref sig .tc := ⟨.hbm, 137, rfl⟩
abbrev main_while0b_c_11 : Ref sig .tc := ⟨.hbm, 138, rfl⟩
abbrev main_while0b_v84 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_call8_v0 : Ref sig .tc := ⟨.hbm, 145, rfl⟩
abbrev main_call8_v1 : Ref sig .tc := ⟨.hbm, 146, rfl⟩
abbrev main_call8_cst : Ref sig .tc := ⟨.hbm, 147, rfl⟩
abbrev main_call8_v2 : Ref sig .tc := ⟨.hbm, 148, rfl⟩
abbrev main_call8_v3 : Ref sig .tc := ⟨.hbm, 149, rfl⟩
abbrev main_call8_cst_0 : Ref sig .tc := ⟨.hbm, 150, rfl⟩
abbrev main_call8_v4 : Ref sig .tc := ⟨.hbm, 151, rfl⟩
abbrev main_call8_v5 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩

abbrev nD : Nat := 1
abbrev τ : Topo := Topo.v7x

variable {F : FTy → Type} [FloatOps F]

abbrev main_while0_count : Scf.Loop 32 := ⟨0#32, 2048#32, 1#32⟩
-- ==== Proof.Region0.lean ====
/- The first call, the in-projection: over a block of 512 columns the product with the weight, and on the first four blocks of a batch the causal
   convolution and the silu of it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the block belongs to the convolved half: the first four of every eight points. -/
theorem convHalf : ∀ t : Fin cfg0.N, k0_cond1 (grid0.coords t) = 1#1 ↔ t.val % 8 ≤ 3 :=
  (by decide +kernel : ∀ t : Fin grid0.N, k0_cond1 (grid0.coords t) = 1#1 ↔ t.val % 8 ≤ 3)
/-- Whether the block belongs to the gate half. -/
theorem gateHalf : ∀ t : Fin cfg0.N, k0_cond2 (grid0.coords t) = 1#1 ↔ 4 ≤ t.val % 8 :=
  (by decide +kernel : ∀ t : Fin grid0.N, k0_cond2 (grid0.coords t) = 1#1 ↔ 4 ≤ t.val % 8)
/-- The output is stored at every point: either half stores it. -/
theorem live0_4 : ∀ t : Fin cfg0.N, cfg0.idle 4 (grid0.coords t) = false := by decide +kernel

set_option maxHeartbeats 1000000 in
/-- The body at a convolved block. -/
theorem convBody (c : Dev nD) (i : grid0.Coords) (arg2 : Memref sig .tc .vmem S1x2048x1024 .f32) (harg2 : arg2.IsWhole) (arg3 : Memref sig .tc .vmem S512x1024 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S1x2048x512 .f32) (harg6 : arg6.IsWhole) (hc0 : k0_cond1 i = 1#1) (hc1 : ¬k0_cond2 i = 1#1)
    (x0 : Vec F S1x2048x1024 .f32) (x1 : Vec F S512x1024 .f32) (x2 : Vec F S4x512 .f32) (x3 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 x0 x1 x2 x3)) -∗ K ⟨⟩))
    ⊢ wp frame (wpE (defs₀ (F := F)) Variants.none c none) E (cc0_s6_inproj_conv i arg2 harg2 arg3 harg3 arg4 harg4 arg5 harg5 arg6 harg6) K := by
  simp only [cc0_s6_inproj_conv_eq_skeleton]; unfold cc0_s6_inproj_conv_skel
  unfold owns
  iintro ⟨⟨%f0, %hf0, H0⟩, ⟨%f1, %hf1, H1⟩, ⟨%f2, %hf2, H2⟩, ⟨%f3, %hf3, H3⟩, ⟨%d, %f, -, Ho⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact Ho
  ipureintro
  refine (View.read_writes_full ..).trans ?_
  exact congr (congr (congr (congrArg k0_pay2 ((View.readAt_full ..).trans (harg2.read_unread x0))) ((View.readAt_full ..).trans (harg3.read_unread x1))) ((View.readAt_full ..).trans (harg4.read_unread x2))) ((View.readAt_full ..).trans (harg5.read_unread x3))

set_option maxHeartbeats 1000000 in
/-- The body at a block of the gate half. -/
theorem gateBody (c : Dev nD) (i : grid0.Coords) (arg2 : Memref sig .tc .vmem S1x2048x1024 .f32) (harg2 : arg2.IsWhole) (arg3 : Memref sig .tc .vmem S512x1024 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S1x2048x512 .f32) (harg6 : arg6.IsWhole) (hc0 : ¬k0_cond1 i = 1#1) (hc1 : k0_cond2 i = 1#1)
    (x0 : Vec F S1x2048x1024 .f32) (x1 : Vec F S512x1024 .f32) (x2 : Vec F S4x512 .f32) (x3 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x0 x1)) -∗ K ⟨⟩))
    ⊢ wp frame (wpE (defs₀ (F := F)) Variants.none c none) E (cc0_s6_inproj_conv i arg2 harg2 arg3 harg3 arg4 harg4 arg5 harg5 arg6 harg6) K := by
  simp only [cc0_s6_inproj_conv_eq_skeleton]; unfold cc0_s6_inproj_conv_skel
  unfold owns
  iintro ⟨⟨%f0, %hf0, H0⟩, ⟨%f1, %hf1, H1⟩, ⟨%f2, %hf2, H2⟩, ⟨%f3, %hf3, H3⟩, ⟨%d, %f, -, Ho⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact Ho
  ipureintro
  refine (View.read_writes_full ..).trans ?_
  exact congr (congrArg k0_pay3 ((View.readAt_full ..).trans (harg2.read_unread x0))) ((View.readAt_full ..).trans (harg3.read_unread x1))

-- what the TensorCore's buffers hold when the region is entered
variable (V : (c : Dev nD) → (b : Ref sig .tc) → Buf (Elt F) ((c : Thread nD τ).loc b))

/-- Window `w`'s block of its array at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block stored at point `t`. -/
def convAt (c : Dev nD) (t : Fin cfg0.N) : Vec F S1x2048x512 .f32 :=
  if t.val % 8 ≤ 3 then k0_pay2 (iblk0 V c 0 t) (iblk0 V c 1 t) (iblk0 V c 2 t) (iblk0 V c 3 t)
  else k0_pay3 (iblk0 V c 0 t) (iblk0 V c 1 t)

/-! The staging buffer of each window at point `t`, and that it is whole. -/

abbrev ms0_0 (t : Fin cfg0.N) : Memref sig .tc .vmem S1x2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x512 .f32 := win0_4.stage (cfg0.slots t 4)
abbrev hs0_4 (t : Fin cfg0.N) : (ms0_4 t).IsWhole := hstage0_4 ((cfg0.slots t 4).cast nbuf0_4)

/-- The data of the first call: arrays as found, inputs left in place, the output at `convAt`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => convAt V c t
  Φ _ := Pipeline.ΦA spec0 c
  q _ := fullShare
  owed _ := 0

theorem A_eq0 (c : Dev nD) (w : Fin cfg0.W) : (dat0 V c).A w = V c (Pipeline.arrRef spec0 w) := by
  dsimp only [dat0]

/-! After the body each input's buffer holds its block, the output's the named block. -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = convAt V c t := by dsimp only [dat0]

/-! Before the body, too, each input's buffer holds its block, whether it was fetched at this point or not. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- What the body starts from at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What the body leaves at point `t`. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 800000 in
/-- The body at any point leaves what the data say. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (ms0_0 t) fullShare ((dat0 V c).after 0 t) from by
    unfold Dat.leavesExact; rw [show cfg0.idle 0 (grid0.coords t) = false from rfl], after0_0]
  rw [show (dat0 V c).leavesExact 1 t = owns (c : Thread nD τ) (ms0_1 t) fullShare ((dat0 V c).after 1 t) from by
    unfold Dat.leavesExact; rw [show cfg0.idle 1 (grid0.coords t) = false from rfl], after0_1]
  rw [show (dat0 V c).leavesExact 2 t = owns (c : Thread nD τ) (ms0_2 t) fullShare ((dat0 V c).after 2 t) from by
    unfold Dat.leavesExact; rw [show cfg0.idle 2 (grid0.coords t) = false from rfl], after0_2]
  rw [show (dat0 V c).leavesExact 3 t = owns (c : Thread nD τ) (ms0_3 t) fullShare ((dat0 V c).after 3 t) from by
    unfold Dat.leavesExact; rw [show cfg0.idle 3 (grid0.coords t) = false from rfl], after0_3]
  rw [show (dat0 V c).leavesExact 4 t = owns (c : Thread nD τ) (ms0_4 t) fullShare ((dat0 V c).after 4 t) from by
    unfold Dat.leavesExact; rw [show cfg0.idle 4 (grid0.coords t) = false from live0_4 t], after0_4]
  iintro ⟨HΦ, Ho, ⟨%d0, H0⟩, ⟨%d1, H1⟩, ⟨%d2, H2⟩, ⟨%d3, H3⟩, ⟨%d4, H4⟩⟩
  unfold convAt
  by_cases h0 : t.val % 8 ≤ 3
  · rw [if_pos h0]
    iapply (convBody c (grid0.coords t) _ _ _ _ _ _ _ _ _ _ ((convHalf t).mpr h0) (fun h => absurd ((gateHalf t).mp h) (by omega)) (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [if_neg h0]
    iapply (gateBody c (grid0.coords t) _ _ _ _ _ _ _ _ _ _ (fun h => h0 ((convHalf t).mp h)) ((gateHalf t).mpr (by omega)) (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body of the table at point `t` is the kernel body on that point's buffers. -/
theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen
-- ==== Proof.ScanLoops.lean ====
/- The eight counted loops of the scan kernel: 16 steps each of the recurrence `h := h * dA + u`, one row of the
   state sums stored per step. Each loop's invariant names the contents of the two buffers it writes outright:
   the state buffer holds `scanH` after `k` steps, and the rows `base .. base + k` of the state-sum buffer hold
   `scanY` of those steps, the other rows what they held when the loop was entered. -/
module

public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.WritesUnit
public import Idealize.ShloMosaic.Lib.Pipeline.Kit
public import Idealize.ShloMosaic.Lib.Pipeline.Frame
public import Idealize.ShloMosaic.Lib.ValueIdxCore

@[expose] public section

set_option maxRecDepth 8192
set_option maxHeartbeats 1000000

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ## The steps as functions of values -/

/-- Slab `k` of a block of sixteen slabs, as the one-slab block a step loads. -/
def slab (A : Vec F S16x16x2048 .f32) (k : ℕ) : Vec F S1x16x2048 .f32 :=
  fun x => A (ix3 ⟨k % 16, Nat.mod_lt _ (by decide)⟩ (x 1) (x 2))

/-- The state after `k` steps of `h := h * dA + u` from `H`. -/
def scanH (A U : Vec F S16x16x2048 .f32) (H : Vec F S16x2048 .f32) : ℕ → Vec F S16x2048 .f32
  | 0 => H
  | k + 1 => k1_pay13 (scanH A U H k) (slab A k) (slab U k)

/-- Step `k`'s row of state sums. -/
def scanY (A U : Vec F S16x16x2048 .f32) (H : Vec F S16x2048 .f32) (k : ℕ) : Vec F S1x16x128 .f32 :=
  k1_pay14 (scanH A U H k) (slab A k) (slab U k)

/-- The state-sum block with the rows `base .. base + k` replaced by the steps' rows. -/
def scanRows (base : ℕ) (A U : Vec F S16x16x2048 .f32) (H : Vec F S16x2048 .f32) (Y : Vec F S128x16x128 .f32) (k : ℕ) : Vec F S128x16x128 .f32 :=
  fun y => if base ≤ (y 0).val ∧ (y 0).val < base + k then scanY A U H ((y 0).val - base) (ix3 0 (y 1) (y 2)) else Y y

/-! ## The buffers' contents before step `k` -/

/-- The state buffer's contents before step `k` of the loop that starts at row `base`, from the contents `G` the loop finds. -/
def hcon (base : ℕ) {m : Memref sig .tc .vmem S16x2048 .f32} (hm : m.IsWhole) (A U : Vec F S16x16x2048 .f32) (G : BufTy.Contents (Elt F) m.view.ty) :
    ℕ → BufTy.Contents (Elt F) m.view.ty
  | 0 => G
  | k + 1 => hm.unread (Val := Elt F) (scanH A U (m.view.read (Elt F) G) (k + 1))

/-- The state-sum buffer's contents before step `k`, from the contents `G` the loop finds. -/
def ycon (base : ℕ) {m : Memref sig .tc .vmem S128x16x128 .f32} (hm : m.IsWhole) (A U : Vec F S16x16x2048 .f32) (H : Vec F S16x2048 .f32)
    (G : BufTy.Contents (Elt F) m.view.ty) : ℕ → BufTy.Contents (Elt F) m.view.ty
  | 0 => G
  | k + 1 => hm.unread (Val := Elt F) (scanRows base A U H (m.view.read (Elt F) G) (k + 1))

theorem read_hcon (base : ℕ) {m : Memref sig .tc .vmem S16x2048 .f32} (hm : m.IsWhole) (A U : Vec F S16x16x2048 .f32) (G : BufTy.Contents (Elt F) m.view.ty) (k : ℕ) :
    m.view.read (Elt F) (hcon base hm A U G k) = scanH A U (m.view.read (Elt F) G) k := by
  cases k with
  | zero => rfl
  | succ k => exact hm.read_unread _

theorem read_ycon (base : ℕ) {m : Memref sig .tc .vmem S128x16x128 .f32} (hm : m.IsWhole) (A U : Vec F S16x16x2048 .f32) (H : Vec F S16x2048 .f32)
    (G : BufTy.Contents (Elt F) m.view.ty) (k : ℕ) :
    m.view.read (Elt F) (ycon base hm A U H G k) = scanRows base A U H (m.view.read (Elt F) G) k := by
  cases k with
  | zero =>
    funext y
    show _ = (if base ≤ (y 0).val ∧ (y 0).val < base + 0 then _ else _)
    rw [if_neg (by omega)]; rfl
  | succ k => exact hm.read_unread _

/-- A load of slab `k` reads slab `k` of what the buffer holds. -/
theorem readAt_slab (v : View sig .tc .vmem S16x16x2048 .f32) (X : BufTy.Contents (Elt F) v.ty) {off : Fin 3 → ℕ} {k : ℕ} (hk : k < 16)
    (hoff : off = ![k, 0, 0]) (inb : ∀ a, off a + S1x16x2048.size a ≤ S16x16x2048.size a) :
    v.readAt (Elt F) (Rect.unit (s := S16x16x2048) off S1x16x2048.size inb).toLoadRect X = slab (v.read (Elt F) X) k := by
  subst hoff
  funext x
  refine congrArg (v.read (Elt F) X) (funext fun a => Fin.ext ?_)
  match a with
  | ⟨0, _⟩ =>
    have h0 : (x 0).val < 1 := (x 0).isLt
    show k + 1 * (x 0).val = k % 16
    rw [Nat.mod_eq_of_lt hk]; omega
  | ⟨1, _⟩ => show 0 + 1 * (x 1).val = (x 1).val; omega
  | ⟨2, _⟩ => show 0 + 1 * (x 2).val = (x 2).val; omega

/-- One step leaves the state buffer at the next state. -/
theorem hcon_succ (base : ℕ) {m : Memref sig .tc .vmem S16x2048 .f32} (hm : m.IsWhole) (A U : Vec F S16x16x2048 .f32) (G f : BufTy.Contents (Elt F) m.view.ty) (k : ℕ)
    {off : Fin 2 → ℕ} (inb : ∀ a, off a + S16x2048.size a ≤ S16x2048.size a) (w : Vec F S16x2048 .f32)
    (hw : w = k1_pay13 (scanH A U (m.view.read (Elt F) G) k) (slab A k) (slab U k)) :
    m.view.writes (Elt F) f [⟨Rect.unit (s := S16x2048) off S16x2048.size inb, w⟩] = hcon base hm A U G (k + 1) := by
  refine hm.eq_unread ?_
  rw [View.read_writes_full, hw]; rfl

/-- One step adds its row to the state-sum buffer. -/
theorem ycon_succ (base : ℕ) {m : Memref sig .tc .vmem S128x16x128 .f32} (hm : m.IsWhole) (A U : Vec F S16x16x2048 .f32) (H : Vec F S16x2048 .f32)
    (G : BufTy.Contents (Elt F) m.view.ty) (k : ℕ)
    {off : Fin 3 → ℕ} (hoff : off = ![base + k, 0, 0]) (inb : ∀ a, off a + S1x16x128.size a ≤ S128x16x128.size a) (w : Vec F S1x16x128 .f32)
    (hw : w = scanY A U H k) :
    m.view.writes (Elt F) (ycon base hm A U H G k) [⟨Rect.unit (s := S128x16x128) off S1x16x128.size inb, w⟩] = ycon base hm A U H G (k + 1) := by
  refine hm.eq_unread ?_
  funext y
  have h1 : (y 1).val < 16 := (y 1).isLt
  have h2 : (y 2).val < 128 := (y 2).isLt
  rw [View.read_writes_cons_unit _ _ inb w [] y hoff, View.writes_nil, read_ycon]
  by_cases hy : (y 0).val = base + k
  · rw [dif_pos (by
      intro a
      match a with
      | ⟨0, _⟩ => show base + k ≤ (y 0).val ∧ (y 0).val < base + k + 1; omega
      | ⟨1, _⟩ => show 0 ≤ (y 1).val ∧ (y 1).val < 0 + 16; omega
      | ⟨2, _⟩ => show 0 ≤ (y 2).val ∧ (y 2).val < 0 + 128; omega)]
    show _ = (if base ≤ (y 0).val ∧ (y 0).val < base + (k + 1) then _ else _)
    rw [if_pos (by omega), hw, show (y 0).val - base = k by omega]
    refine congrArg _ (funext fun a => Fin.ext ?_)
    match a with
    | ⟨0, _⟩ => show (y 0).val - (base + k) = 0; omega
    | ⟨1, _⟩ => show (y 1).val - 0 = (y 1).val; omega
    | ⟨2, _⟩ => show (y 2).val - 0 = (y 2).val; omega
  · rw [dif_neg (by
      intro h
      have := h 0
      have h' : base + k ≤ (y 0).val ∧ (y 0).val < base + k + 1 := this
      omega)]
    show (if base ≤ (y 0).val ∧ (y 0).val < base + k then _ else _) = (if base ≤ (y 0).val ∧ (y 0).val < base + (k + 1) then _ else _)
    by_cases hc : base ≤ (y 0).val ∧ (y 0).val < base + k
    · rw [if_pos hc, if_pos (by omega)]
    · rw [if_neg hc, if_neg (by omega)]

/-! ## Loop 1: steps 0 to 15 -/

/-- The invariants of loop 1. -/
abbrev ScanInvTy_1 (Ix Name U Lvl : Type) [DecidableEq Ix] [DecidableEq Name] [RA.URA U] [Preorder Lvl]
    (𝒱 : Variants) (c : Dev nD) (bd : Option 𝒱.V) (E : Set Name) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (v77 : FVec F S16x16x2048 .f32) :=
  Idealize.ShloMosaic.LoopInv (M := MT nD τ sig Ix (Elt F) Name U Lvl) Idealize.ShloMosaic.frame (wpE defs₀ 𝒱 (c : Thread nD τ) bd) E
    k1_t1_loop.lb k1_t1_loop.ub k1_t1_loop.st k1_t1_ok () (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v77)

/-- The two buffers loop 1 reads, and the two it writes at their contents before step `k`. -/
abbrev scanInv_1 (c : Dev nD) (arg13 arg14 : Memref sig .tc .vmem S16x16x2048 .f32) (arg11 : Memref sig .tc .vmem S16x2048 .f32) (harg11 : arg11.IsWhole) (arg12 : Memref sig .tc .vmem S128x16x128 .f32) (harg12 : arg12.IsWhole)
    (X13 : BufTy.Contents (Elt F) arg13.view.ty) (X14 : BufTy.Contents (Elt F) arg14.view.ty) (G11 : BufTy.Contents (Elt F) arg11.view.ty) (G12 : BufTy.Contents (Elt F) arg12.view.ty) (k : ℕ) (_u : PUnit) : sProp 𝕄G :=
  iprop((arg13.view.loc (c : Thread nD τ) ↦[arg13.view.set]{fullShare} X13) ∗ (arg14.view.loc (c : Thread nD τ) ↦[arg14.view.set]{fullShare} X14) ∗ (∃ f, (arg11.view.loc (c : Thread nD τ) ↦[arg11.view.set]{fullShare} f) ∗ ⌜f = hcon 0 harg11 (arg13.view.read (Elt F) X13) (arg14.view.read (Elt F) X14) G11 k⌝) ∗ (∃ f, (arg12.view.loc (c : Thread nD τ) ↦[arg12.view.set]{fullShare} f) ∗ ⌜f = ycon 0 harg12 (arg13.view.read (Elt F) X13) (arg14.view.read (Elt F) X14) (arg11.view.read (Elt F) G11) G12 k⌝))

set_option warn.classDefReducibility false in
/-- Loop 1 by its invariant. -/
@[sl_loop] def scanLoop_1 (𝒱 : Variants) (c : Dev nD) (bd : Option 𝒱.V) (E : Set ℕ) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (v77 : FVec F S16x16x2048 .f32) (X13 : BufTy.Contents (Elt F) arg13.view.ty) (X14 : BufTy.Contents (Elt F) arg14.view.ty) (G11 : BufTy.Contents (Elt F) arg11.view.ty) (G12 : BufTy.Contents (Elt F) arg12.view.ty) :
    ScanInvTy_1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v77 where
  inv := scanInv_1 (F := F) c arg13 arg14 arg11 harg11 arg12 harg12 X13 X14 G11 G12
  step k acc := by
    have hk : k.val < 16 := Nat.lt_of_lt_of_le k.isLt k1_t1_abs.2.1
    iintro ⟨HA, HU, ⟨%f11, HH, %h11⟩, ⟨%f12, HY, %h12⟩⟩
    unfold k1_t1_body
    sl_exec
    sl_step
    isplitl [HA]; · iexact HA
    isplitl [HU]; · iexact HU
    isplitl [HH]
    · iexists _; isplitl [HH]; · iexact HH
      ipureintro
      refine hcon_succ 0 harg11 _ _ G11 f11 k.val _ _ ?_
      rw [show k1_pay13 (F := F) = k1_pay13 from rfl]
      rw [readAt_slab arg13.view X13 hk (k1_off1_eq k), readAt_slab arg14.view X14 hk (k1_off1_eq k), View.readAt_full, h11, read_hcon]
    · iexists _; isplitl [HY]; · iexact HY
      ipureintro
      rw [h12]
      refine ycon_succ 0 harg12 _ _ _ G12 k.val ((k1_off2_eq k).trans (by rw [Nat.zero_add])) _ _ ?_
      rw [show k1_pay14 (F := F) = k1_pay14 from rfl]
      rw [readAt_slab arg13.view X13 hk (k1_off1_eq k), readAt_slab arg14.view X14 hk (k1_off1_eq k), View.readAt_full, h11, read_hcon]
      rfl

/-! ## Loop 2: steps 16 to 31 -/

/-- The invariants of loop 2. -/
abbrev ScanInvTy_2 (Ix Name U Lvl : Type) [DecidableEq Ix] [DecidableEq Name] [RA.URA U] [Preorder Lvl]
    (𝒱 : Variants) (c : Dev nD) (bd : Option 𝒱.V) (E : Set Name) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (v116 : FVec F S16x16x2048 .f32) :=
  Idealize.ShloMosaic.LoopInv (M := MT nD τ sig Ix (Elt F) Name U Lvl) Idealize.ShloMosaic.frame (wpE defs₀ 𝒱 (c : Thread nD τ) bd) E
    k1_t2_loop.lb k1_t2_loop.ub k1_t2_loop.st k1_t2_ok () (k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v116)

/-- The two buffers loop 2 reads, and the two it writes at their contents before step `k`. -/
abbrev scanInv_2 (c : Dev nD) (arg13 arg14 : Memref sig .tc .vmem S16x16x2048 .f32) (arg11 : Memref sig .tc .vmem S16x2048 .f32) (harg11 : arg11.IsWhole) (arg12 : Memref sig .tc .vmem S128x16x128 .f32) (harg12 : arg12.IsWhole)
    (X13 : BufTy.Contents (Elt F) arg13.view.ty) (X14 : BufTy.Contents (Elt F) arg14.view.ty) (G11 : BufTy.Contents (Elt F) arg11.view.ty) (G12 : BufTy.Contents (Elt F) arg12.view.ty) (k : ℕ) (_u : PUnit) : sProp 𝕄G :=
  iprop((arg13.view.loc (c : Thread nD τ) ↦[arg13.view.set]{fullShare} X13) ∗ (arg14.view.loc (c : Thread nD τ) ↦[arg14.view.set]{fullShare} X14) ∗ (∃ f, (arg11.view.loc (c : Thread nD τ) ↦[arg11.view.set]{fullShare} f) ∗ ⌜f = hcon 16 harg11 (arg13.view.read (Elt F) X13) (arg14.view.read (Elt F) X14) G11 k⌝) ∗ (∃ f, (arg12.view.loc (c : Thread nD τ) ↦[arg12.view.set]{fullShare} f) ∗ ⌜f = ycon 16 harg12 (arg13.view.read (Elt F) X13) (arg14.view.read (Elt F) X14) (arg11.view.read (Elt F) G11) G12 k⌝))

set_option warn.classDefReducibility false in
/-- Loop 2 by its invariant. -/
@[sl_loop] def scanLoop_2 (𝒱 : Variants) (c : Dev nD) (bd : Option 𝒱.V) (E : Set ℕ) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (v116 : FVec F S16x16x2048 .f32) (X13 : BufTy.Contents (Elt F) arg13.view.ty) (X14 : BufTy.Contents (Elt F) arg14.view.ty) (G11 : BufTy.Contents (Elt F) arg11.view.ty) (G12 : BufTy.Contents (Elt F) arg12.view.ty) :
    ScanInvTy_2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v116 where
  inv := scanInv_2 (F := F) c arg13 arg14 arg11 harg11 arg12 harg12 X13 X14 G11 G12
  step k acc := by
    have hk : k.val < 16 := Nat.lt_of_lt_of_le k.isLt k1_t2_abs.2.1
    iintro ⟨HA, HU, ⟨%f11, HH, %h11⟩, ⟨%f12, HY, %h12⟩⟩
    unfold k1_t2_body
    sl_exec
    sl_step
    isplitl [HA]; · iexact HA
    isplitl [HU]; · iexact HU
    isplitl [HH]
    · iexists _; isplitl [HH]; · iexact HH
      ipureintro
      refine hcon_succ 16 harg11 _ _ G11 f11 k.val _ _ ?_
      rw [show k1_pay18 (F := F) = k1_pay13 from rfl]
      rw [readAt_slab arg13.view X13 hk (k1_off3_eq k), readAt_slab arg14.view X14 hk (k1_off3_eq k), View.readAt_full, h11, read_hcon]
    · iexists _; isplitl [HY]; · iexact HY
      ipureintro
      rw [h12]
      refine ycon_succ 16 harg12 _ _ _ G12 k.val ((k1_off4_eq k).trans (by rw [Nat.add_comm])) _ _ ?_
      rw [show k1_pay19 (F := F) = k1_pay14 from rfl]
      rw [readAt_slab arg13.view X13 hk (k1_off3_eq k), readAt_slab arg14.view X14 hk (k1_off3_eq k), View.readAt_full, h11, read_hcon]
      rfl

/-! ## Loop 3: steps 32 to 47 -/

/-- The invariants of loop 3. -/
abbrev ScanInvTy_3 (Ix Name U Lvl : Type) [DecidableEq Ix] [DecidableEq Name] [RA.URA U] [Preorder Lvl]
    (𝒱 : Variants) (c : Dev nD) (bd : Option 𝒱.V) (E : Set Name) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (v116 : FVec F S16x16x2048 .f32) :=
  Idealize.ShloMosaic.LoopInv (M := MT nD τ sig Ix (Elt F) Name U Lvl) Idealize.ShloMosaic.frame (wpE defs₀ 𝒱 (c : Thread nD τ) bd) E
    k1_t3_loop.lb k1_t3_loop.ub k1_t3_loop.st k1_t3_ok () (k1_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v116)

/-- The two buffers loop 3 reads, and the two it writes at their contents before step `k`. -/
abbrev scanInv_3 (c : Dev nD) (arg13 arg14 : Memref sig .tc .vmem S16x16x2048 .f32) (arg11 : Memref sig .tc .vmem S16x2048 .f32) (harg11 : arg11.IsWhole) (arg12 : Memref sig .tc .vmem S128x16x128 .f32) (harg12 : arg12.IsWhole)
    (X13 : BufTy.Contents (Elt F) arg13.view.ty) (X14 : BufTy.Contents (Elt F) arg14.view.ty) (G11 : BufTy.Contents (Elt F) arg11.view.ty) (G12 : BufTy.Contents (Elt F) arg12.view.ty) (k : ℕ) (_u : PUnit) : sProp 𝕄G :=
  iprop((arg13.view.loc (c : Thread nD τ) ↦[arg13.view.set]{fullShare} X13) ∗ (arg14.view.loc (c : Thread nD τ) ↦[arg14.view.set]{fullShare} X14) ∗ (∃ f, (arg11.view.loc (c : Thread nD τ) ↦[arg11.view.set]{fullShare} f) ∗ ⌜f = hcon 32 harg11 (arg13.view.read (Elt F) X13) (arg14.view.read (Elt F) X14) G11 k⌝) ∗ (∃ f, (arg12.view.loc (c : Thread nD τ) ↦[arg12.view.set]{fullShare} f) ∗ ⌜f = ycon 32 harg12 (arg13.view.read (Elt F) X13) (arg14.view.read (Elt F) X14) (arg11.view.read (Elt F) G11) G12 k⌝))

set_option warn.classDefReducibility false in
/-- Loop 3 by its invariant. -/
@[sl_loop] def scanLoop_3 (𝒱 : Variants) (c : Dev nD) (bd : Option 𝒱.V) (E : Set ℕ) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (v116 : FVec F S16x16x2048 .f32) (X13 : BufTy.Contents (Elt F) arg13.view.ty) (X14 : BufTy.Contents (Elt F) arg14.view.ty) (G11 : BufTy.Contents (Elt F) arg11.view.ty) (G12 : BufTy.Contents (Elt F) arg12.view.ty) :
    ScanInvTy_3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v116 where
  inv := scanInv_3 (F := F) c arg13 arg14 arg11 harg11 arg12 harg12 X13 X14 G11 G12
  step k acc := by
    have hk : k.val < 16 := Nat.lt_of_lt_of_le k.isLt k1_t3_abs.2.1
    iintro ⟨HA, HU, ⟨%f11, HH, %h11⟩, ⟨%f12, HY, %h12⟩⟩
    unfold k1_t3_body
    sl_exec
    sl_step
    isplitl [HA]; · iexact HA
    isplitl [HU]; · iexact HU
    isplitl [HH]
    · iexists _; isplitl [HH]; · iexact HH
      ipureintro
      refine hcon_succ 32 harg11 _ _ G11 f11 k.val _ _ ?_
      rw [show k1_pay23 (F := F) = k1_pay13 from rfl]
      rw [readAt_slab arg13.view X13 hk (k1_off5_eq k), readAt_slab arg14.view X14 hk (k1_off5_eq k), View.readAt_full, h11, read_hcon]
    · iexists _; isplitl [HY]; · iexact HY
      ipureintro
      rw [h12]
      refine ycon_succ 32 harg12 _ _ _ G12 k.val ((k1_off6_eq k).trans (by rw [Nat.add_comm])) _ _ ?_
      rw [show k1_pay24 (F := F) = k1_pay14 from rfl]
      rw [readAt_slab arg13.view X13 hk (k1_off5_eq k), readAt_slab arg14.view X14 hk (k1_off5_eq k), View.readAt_full, h11, read_hcon]
      rfl

/-! ## Loop 4: steps 48 to 63 -/

/-- The invariants of loop 4. -/
abbrev ScanInvTy_4 (Ix Name U Lvl : Type) [DecidableEq Ix] [DecidableEq Name] [RA.URA U] [Preorder Lvl]
    (𝒱 : Variants) (c : Dev nD) (bd : Option 𝒱.V) (E : Set Name) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) :=
  Idealize.ShloMosaic.LoopInv (M := MT nD τ sig Ix (Elt F) Name U Lvl) Idealize.ShloMosaic.frame (wpE defs₀ 𝒱 (c : Thread nD τ) bd) E
    k1_t4_loop.lb k1_t4_loop.ub k1_t4_loop.st k1_t4_ok () (k1_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4)

/-- The two buffers loop 4 reads, and the two it writes at their contents before step `k`. -/
abbrev scanInv_4 (c : Dev nD) (arg13 arg14 : Memref sig .tc .vmem S16x16x2048 .f32) (arg11 : Memref sig .tc .vmem S16x2048 .f32) (harg11 : arg11.IsWhole) (arg12 : Memref sig .tc .vmem S128x16x128 .f32) (harg12 : arg12.IsWhole)
    (X13 : BufTy.Contents (Elt F) arg13.view.ty) (X14 : BufTy.Contents (Elt F) arg14.view.ty) (G11 : BufTy.Contents (Elt F) arg11.view.ty) (G12 : BufTy.Contents (Elt F) arg12.view.ty) (k : ℕ) (_u : PUnit) : sProp 𝕄G :=
  iprop((arg13.view.loc (c : Thread nD τ) ↦[arg13.view.set]{fullShare} X13) ∗ (arg14.view.loc (c : Thread nD τ) ↦[arg14.view.set]{fullShare} X14) ∗ (∃ f, (arg11.view.loc (c : Thread nD τ) ↦[arg11.view.set]{fullShare} f) ∗ ⌜f = hcon 48 harg11 (arg13.view.read (Elt F) X13) (arg14.view.read (Elt F) X14) G11 k⌝) ∗ (∃ f, (arg12.view.loc (c : Thread nD τ) ↦[arg12.view.set]{fullShare} f) ∗ ⌜f = ycon 48 harg12 (arg13.view.read (Elt F) X13) (arg14.view.read (Elt F) X14) (arg11.view.read (Elt F) G11) G12 k⌝))

set_option warn.classDefReducibility false in
/-- Loop 4 by its invariant. -/
@[sl_loop] def scanLoop_4 (𝒱 : Variants) (c : Dev nD) (bd : Option 𝒱.V) (E : Set ℕ) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (X13 : BufTy.Contents (Elt F) arg13.view.ty) (X14 : BufTy.Contents (Elt F) arg14.view.ty) (G11 : BufTy.Contents (Elt F) arg11.view.ty) (G12 : BufTy.Contents (Elt F) arg12.view.ty) :
    ScanInvTy_4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 where
  inv := scanInv_4 (F := F) c arg13 arg14 arg11 harg11 arg12 harg12 X13 X14 G11 G12
  step k acc := by
    have hk : k.val < 16 := Nat.lt_of_lt_of_le k.isLt k1_t4_abs.2.1
    iintro ⟨HA, HU, ⟨%f11, HH, %h11⟩, ⟨%f12, HY, %h12⟩⟩
    unfold k1_t4_body
    sl_exec
    sl_step
    isplitl [HA]; · iexact HA
    isplitl [HU]; · iexact HU
    isplitl [HH]
    · iexists _; isplitl [HH]; · iexact HH
      ipureintro
      refine hcon_succ 48 harg11 _ _ G11 f11 k.val _ _ ?_
      rw [show k1_pay28 (F := F) = k1_pay13 from rfl]
      rw [readAt_slab arg13.view X13 hk (k1_off7_eq k), readAt_slab arg14.view X14 hk (k1_off7_eq k), View.readAt_full, h11, read_hcon]
    · iexists _; isplitl [HY]; · iexact HY
      ipureintro
      rw [h12]
      refine ycon_succ 48 harg12 _ _ _ G12 k.val ((k1_off8_eq k).trans (by rw [Nat.add_comm])) _ _ ?_
      rw [show k1_pay29 (F := F) = k1_pay14 from rfl]
      rw [readAt_slab arg13.view X13 hk (k1_off7_eq k), readAt_slab arg14.view X14 hk (k1_off7_eq k), View.readAt_full, h11, read_hcon]
      rfl

/-! ## Loop 5: steps 64 to 79 -/

/-- The invariants of loop 5. -/
abbrev ScanInvTy_5 (Ix Name U Lvl : Type) [DecidableEq Ix] [DecidableEq Name] [RA.URA U] [Preorder Lvl]
    (𝒱 : Variants) (c : Dev nD) (bd : Option 𝒱.V) (E : Set Name) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (v190 : Vec F S16x2048 .f32) (v191 : FVec F S16x16x128 .f32) (cst_80 : F .f32) :=
  Idealize.ShloMosaic.LoopInv (M := MT nD τ sig Ix (Elt F) Name U Lvl) Idealize.ShloMosaic.frame (wpE defs₀ 𝒱 (c : Thread nD τ) bd) E
    k1_t5_loop.lb k1_t5_loop.ub k1_t5_loop.st k1_t5_ok () (k1_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v190 v191 cst_80)

/-- The two buffers loop 5 reads, and the two it writes at their contents before step `k`. -/
abbrev scanInv_5 (c : Dev nD) (arg13 arg14 : Memref sig .tc .vmem S16x16x2048 .f32) (arg11 : Memref sig .tc .vmem S16x2048 .f32) (harg11 : arg11.IsWhole) (arg12 : Memref sig .tc .vmem S128x16x128 .f32) (harg12 : arg12.IsWhole)
    (X13 : BufTy.Contents (Elt F) arg13.view.ty) (X14 : BufTy.Contents (Elt F) arg14.view.ty) (G11 : BufTy.Contents (Elt F) arg11.view.ty) (G12 : BufTy.Contents (Elt F) arg12.view.ty) (k : ℕ) (_u : PUnit) : sProp 𝕄G :=
  iprop((arg13.view.loc (c : Thread nD τ) ↦[arg13.view.set]{fullShare} X13) ∗ (arg14.view.loc (c : Thread nD τ) ↦[arg14.view.set]{fullShare} X14) ∗ (∃ f, (arg11.view.loc (c : Thread nD τ) ↦[arg11.view.set]{fullShare} f) ∗ ⌜f = hcon 64 harg11 (arg13.view.read (Elt F) X13) (arg14.view.read (Elt F) X14) G11 k⌝) ∗ (∃ f, (arg12.view.loc (c : Thread nD τ) ↦[arg12.view.set]{fullShare} f) ∗ ⌜f = ycon 64 harg12 (arg13.view.read (Elt F) X13) (arg14.view.read (Elt F) X14) (arg11.view.read (Elt F) G11) G12 k⌝))

set_option warn.classDefReducibility false in
/-- Loop 5 by its invariant. -/
@[sl_loop] def scanLoop_5 (𝒱 : Variants) (c : Dev nD) (bd : Option 𝒱.V) (E : Set ℕ) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (v190 : Vec F S16x2048 .f32) (v191 : FVec F S16x16x128 .f32) (cst_80 : F .f32) (X13 : BufTy.Contents (Elt F) arg13.view.ty) (X14 : BufTy.Contents (Elt F) arg14.view.ty) (G11 : BufTy.Contents (Elt F) arg11.view.ty) (G12 : BufTy.Contents (Elt F) arg12.view.ty) :
    ScanInvTy_5 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v190 v191 cst_80 where
  inv := scanInv_5 (F := F) c arg13 arg14 arg11 harg11 arg12 harg12 X13 X14 G11 G12
  step k acc := by
    have hk : k.val < 16 := Nat.lt_of_lt_of_le k.isLt k1_t5_abs.2.1
    iintro ⟨HA, HU, ⟨%f11, HH, %h11⟩, ⟨%f12, HY, %h12⟩⟩
    unfold k1_t5_body
    sl_exec
    sl_step
    isplitl [HA]; · iexact HA
    isplitl [HU]; · iexact HU
    isplitl [HH]
    · iexists _; isplitl [HH]; · iexact HH
      ipureintro
      refine hcon_succ 64 harg11 _ _ G11 f11 k.val _ _ ?_
      rw [show k1_pay34 (F := F) = k1_pay13 from rfl]
      rw [readAt_slab arg13.view X13 hk (k1_off9_eq k), readAt_slab arg14.view X14 hk (k1_off9_eq k), View.readAt_full, h11, read_hcon]
    · iexists _; isplitl [HY]; · iexact HY
      ipureintro
      rw [h12]
      refine ycon_succ 64 harg12 _ _ _ G12 k.val ((k1_off10_eq k).trans (by rw [Nat.add_comm])) _ _ ?_
      rw [show k1_pay35 (F := F) = k1_pay14 from rfl]
      rw [readAt_slab arg13.view X13 hk (k1_off9_eq k), readAt_slab arg14.view X14 hk (k1_off9_eq k), View.readAt_full, h11, read_hcon]
      rfl

/-! ## Loop 6: steps 80 to 95 -/

/-- The invariants of loop 6. -/
abbrev ScanInvTy_6 (Ix Name U Lvl : Type) [DecidableEq Ix] [DecidableEq Name] [RA.URA U] [Preorder Lvl]
    (𝒱 : Variants) (c : Dev nD) (bd : Option 𝒱.V) (E : Set Name) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (v226 : Vec F S16x2048 .f32) (v230 : FVec F S16x16x128 .f32) (v231 : FVec F S16x16x128 .f32) (v232 : FVec F S16x16x128 .f32) (v233 : FVec F S16x16x128 .f32) :=
  Idealize.ShloMosaic.LoopInv (M := MT nD τ sig Ix (Elt F) Name U Lvl) Idealize.ShloMosaic.frame (wpE defs₀ 𝒱 (c : Thread nD τ) bd) E
    k1_t6_loop.lb k1_t6_loop.ub k1_t6_loop.st k1_t6_ok () (k1_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v226 v230 v231 v232 v233)

/-- The two buffers loop 6 reads, and the two it writes at their contents before step `k`. -/
abbrev scanInv_6 (c : Dev nD) (arg13 arg14 : Memref sig .tc .vmem S16x16x2048 .f32) (arg11 : Memref sig .tc .vmem S16x2048 .f32) (harg11 : arg11.IsWhole) (arg12 : Memref sig .tc .vmem S128x16x128 .f32) (harg12 : arg12.IsWhole)
    (X13 : BufTy.Contents (Elt F) arg13.view.ty) (X14 : BufTy.Contents (Elt F) arg14.view.ty) (G11 : BufTy.Contents (Elt F) arg11.view.ty) (G12 : BufTy.Contents (Elt F) arg12.view.ty) (k : ℕ) (_u : PUnit) : sProp 𝕄G :=
  iprop((arg13.view.loc (c : Thread nD τ) ↦[arg13.view.set]{fullShare} X13) ∗ (arg14.view.loc (c : Thread nD τ) ↦[arg14.view.set]{fullShare} X14) ∗ (∃ f, (arg11.view.loc (c : Thread nD τ) ↦[arg11.view.set]{fullShare} f) ∗ ⌜f = hcon 80 harg11 (arg13.view.read (Elt F) X13) (arg14.view.read (Elt F) X14) G11 k⌝) ∗ (∃ f, (arg12.view.loc (c : Thread nD τ) ↦[arg12.view.set]{fullShare} f) ∗ ⌜f = ycon 80 harg12 (arg13.view.read (Elt F) X13) (arg14.view.read (Elt F) X14) (arg11.view.read (Elt F) G11) G12 k⌝))

set_option warn.classDefReducibility false in
/-- Loop 6 by its invariant. -/
@[sl_loop] def scanLoop_6 (𝒱 : Variants) (c : Dev nD) (bd : Option 𝒱.V) (E : Set ℕ) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (v226 : Vec F S16x2048 .f32) (v230 : FVec F S16x16x128 .f32) (v231 : FVec F S16x16x128 .f32) (v232 : FVec F S16x16x128 .f32) (v233 : FVec F S16x16x128 .f32) (X13 : BufTy.Contents (Elt F) arg13.view.ty) (X14 : BufTy.Contents (Elt F) arg14.view.ty) (G11 : BufTy.Contents (Elt F) arg11.view.ty) (G12 : BufTy.Contents (Elt F) arg12.view.ty) :
    ScanInvTy_6 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v226 v230 v231 v232 v233 where
  inv := scanInv_6 (F := F) c arg13 arg14 arg11 harg11 arg12 harg12 X13 X14 G11 G12
  step k acc := by
    have hk : k.val < 16 := Nat.lt_of_lt_of_le k.isLt k1_t6_abs.2.1
    iintro ⟨HA, HU, ⟨%f11, HH, %h11⟩, ⟨%f12, HY, %h12⟩⟩
    unfold k1_t6_body
    sl_exec
    sl_step
    isplitl [HA]; · iexact HA
    isplitl [HU]; · iexact HU
    isplitl [HH]
    · iexists _; isplitl [HH]; · iexact HH
      ipureintro
      refine hcon_succ 80 harg11 _ _ G11 f11 k.val _ _ ?_
      rw [show k1_pay43 (F := F) = k1_pay13 from rfl]
      rw [readAt_slab arg13.view X13 hk (k1_off11_eq k), readAt_slab arg14.view X14 hk (k1_off11_eq k), View.readAt_full, h11, read_hcon]
    · iexists _; isplitl [HY]; · iexact HY
      ipureintro
      rw [h12]
      refine ycon_succ 80 harg12 _ _ _ G12 k.val ((k1_off12_eq k).trans (by rw [Nat.add_comm])) _ _ ?_
      rw [show k1_pay44 (F := F) = k1_pay14 from rfl]
      rw [readAt_slab arg13.view X13 hk (k1_off11_eq k), readAt_slab arg14.view X14 hk (k1_off11_eq k), View.readAt_full, h11, read_hcon]
      rfl

/-! ## Loop 7: steps 96 to 111 -/

/-- The invariants of loop 7. -/
abbrev ScanInvTy_7 (Ix Name U Lvl : Type) [DecidableEq Ix] [DecidableEq Name] [RA.URA U] [Preorder Lvl]
    (𝒱 : Variants) (c : Dev nD) (bd : Option 𝒱.V) (E : Set Name) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (v262 : Vec F S16x2048 .f32) (v266 : FVec F S16x16x128 .f32) (v267 : FVec F S16x16x128 .f32) (v268 : FVec F S16x16x128 .f32) (v269 : FVec F S16x16x128 .f32) (v270 : FVec F S16x16x128 .f32) (v271 : FVec F S16x16x128 .f32) (v272 : FVec F S16x16x128 .f32) (v273 : FVec F S16x16x128 .f32) (v274 : FVec F S16x16x128 .f32) (v275 : FVec F S16x16x128 .f32) :=
  Idealize.ShloMosaic.LoopInv (M := MT nD τ sig Ix (Elt F) Name U Lvl) Idealize.ShloMosaic.frame (wpE defs₀ 𝒱 (c : Thread nD τ) bd) E
    k1_t7_loop.lb k1_t7_loop.ub k1_t7_loop.st k1_t7_ok () (k1_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v262 v266 v267 v268 v269 v270 v271 v272 v273 v274 v275)

/-- The two buffers loop 7 reads, and the two it writes at their contents before step `k`. -/
abbrev scanInv_7 (c : Dev nD) (arg13 arg14 : Memref sig .tc .vmem S16x16x2048 .f32) (arg11 : Memref sig .tc .vmem S16x2048 .f32) (harg11 : arg11.IsWhole) (arg12 : Memref sig .tc .vmem S128x16x128 .f32) (harg12 : arg12.IsWhole)
    (X13 : BufTy.Contents (Elt F) arg13.view.ty) (X14 : BufTy.Contents (Elt F) arg14.view.ty) (G11 : BufTy.Contents (Elt F) arg11.view.ty) (G12 : BufTy.Contents (Elt F) arg12.view.ty) (k : ℕ) (_u : PUnit) : sProp 𝕄G :=
  iprop((arg13.view.loc (c : Thread nD τ) ↦[arg13.view.set]{fullShare} X13) ∗ (arg14.view.loc (c : Thread nD τ) ↦[arg14.view.set]{fullShare} X14) ∗ (∃ f, (arg11.view.loc (c : Thread nD τ) ↦[arg11.view.set]{fullShare} f) ∗ ⌜f = hcon 96 harg11 (arg13.view.read (Elt F) X13) (arg14.view.read (Elt F) X14) G11 k⌝) ∗ (∃ f, (arg12.view.loc (c : Thread nD τ) ↦[arg12.view.set]{fullShare} f) ∗ ⌜f = ycon 96 harg12 (arg13.view.read (Elt F) X13) (arg14.view.read (Elt F) X14) (arg11.view.read (Elt F) G11) G12 k⌝))

set_option warn.classDefReducibility false in
/-- Loop 7 by its invariant. -/
@[sl_loop] def scanLoop_7 (𝒱 : Variants) (c : Dev nD) (bd : Option 𝒱.V) (E : Set ℕ) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (v262 : Vec F S16x2048 .f32) (v266 : FVec F S16x16x128 .f32) (v267 : FVec F S16x16x128 .f32) (v268 : FVec F S16x16x128 .f32) (v269 : FVec F S16x16x128 .f32) (v270 : FVec F S16x16x128 .f32) (v271 : FVec F S16x16x128 .f32) (v272 : FVec F S16x16x128 .f32) (v273 : FVec F S16x16x128 .f32) (v274 : FVec F S16x16x128 .f32) (v275 : FVec F S16x16x128 .f32) (X13 : BufTy.Contents (Elt F) arg13.view.ty) (X14 : BufTy.Contents (Elt F) arg14.view.ty) (G11 : BufTy.Contents (Elt F) arg11.view.ty) (G12 : BufTy.Contents (Elt F) arg12.view.ty) :
    ScanInvTy_7 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v262 v266 v267 v268 v269 v270 v271 v272 v273 v274 v275 where
  inv := scanInv_7 (F := F) c arg13 arg14 arg11 harg11 arg12 harg12 X13 X14 G11 G12
  step k acc := by
    have hk : k.val < 16 := Nat.lt_of_lt_of_le k.isLt k1_t7_abs.2.1
    iintro ⟨HA, HU, ⟨%f11, HH, %h11⟩, ⟨%f12, HY, %h12⟩⟩
    unfold k1_t7_body
    sl_exec
    sl_step
    isplitl [HA]; · iexact HA
    isplitl [HU]; · iexact HU
    isplitl [HH]
    · iexists _; isplitl [HH]; · iexact HH
      ipureintro
      refine hcon_succ 96 harg11 _ _ G11 f11 k.val _ _ ?_
      rw [show k1_pay58 (F := F) = k1_pay13 from rfl]
      rw [readAt_slab arg13.view X13 hk (k1_off13_eq k), readAt_slab arg14.view X14 hk (k1_off13_eq k), View.readAt_full, h11, read_hcon]
    · iexists _; isplitl [HY]; · iexact HY
      ipureintro
      rw [h12]
      refine ycon_succ 96 harg12 _ _ _ G12 k.val ((k1_off14_eq k).trans (by rw [Nat.add_comm])) _ _ ?_
      rw [show k1_pay59 (F := F) = k1_pay14 from rfl]
      rw [readAt_slab arg13.view X13 hk (k1_off13_eq k), readAt_slab arg14.view X14 hk (k1_off13_eq k), View.readAt_full, h11, read_hcon]
      rfl

/-! ## Loop 8: steps 112 to 127 -/

/-- The invariants of loop 8. -/
abbrev ScanInvTy_8 (Ix Name U Lvl : Type) [DecidableEq Ix] [DecidableEq Name] [RA.URA U] [Preorder Lvl]
    (𝒱 : Variants) (c : Dev nD) (bd : Option 𝒱.V) (E : Set Name) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (v298 : Vec F S16x2048 .f32) (v302 : FVec F S16x16x128 .f32) (v303 : FVec F S16x16x128 .f32) (v304 : FVec F S16x16x128 .f32) (v305 : FVec F S16x16x128 .f32) (v306 : FVec F S16x16x128 .f32) (v307 : FVec F S16x16x128 .f32) (v308 : FVec F S16x16x128 .f32) (v309 : FVec F S16x16x128 .f32) (v310 : FVec F S16x16x128 .f32) (v311 : FVec F S16x16x128 .f32) (v312 : FVec F S16x16x128 .f32) (v313 : FVec F S16x16x128 .f32) (v314 : FVec F S16x16x128 .f32) (v315 : FVec F S16x16x128 .f32) (v316 : FVec F S16x16x128 .f32) (v317 : FVec F S16x16x128 .f32) :=
  Idealize.ShloMosaic.LoopInv (M := MT nD τ sig Ix (Elt F) Name U Lvl) Idealize.ShloMosaic.frame (wpE defs₀ 𝒱 (c : Thread nD τ) bd) E
    k1_t8_loop.lb k1_t8_loop.ub k1_t8_loop.st k1_t8_ok () (k1_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v298 v302 v303 v304 v305 v306 v307 v308 v309 v310 v311 v312 v313 v314 v315 v316 v317)

/-- The two buffers loop 8 reads, and the two it writes at their contents before step `k`. -/
abbrev scanInv_8 (c : Dev nD) (arg13 arg14 : Memref sig .tc .vmem S16x16x2048 .f32) (arg11 : Memref sig .tc .vmem S16x2048 .f32) (harg11 : arg11.IsWhole) (arg12 : Memref sig .tc .vmem S128x16x128 .f32) (harg12 : arg12.IsWhole)
    (X13 : BufTy.Contents (Elt F) arg13.view.ty) (X14 : BufTy.Contents (Elt F) arg14.view.ty) (G11 : BufTy.Contents (Elt F) arg11.view.ty) (G12 : BufTy.Contents (Elt F) arg12.view.ty) (k : ℕ) (_u : PUnit) : sProp 𝕄G :=
  iprop((arg13.view.loc (c : Thread nD τ) ↦[arg13.view.set]{fullShare} X13) ∗ (arg14.view.loc (c : Thread nD τ) ↦[arg14.view.set]{fullShare} X14) ∗ (∃ f, (arg11.view.loc (c : Thread nD τ) ↦[arg11.view.set]{fullShare} f) ∗ ⌜f = hcon 112 harg11 (arg13.view.read (Elt F) X13) (arg14.view.read (Elt F) X14) G11 k⌝) ∗ (∃ f, (arg12.view.loc (c : Thread nD τ) ↦[arg12.view.set]{fullShare} f) ∗ ⌜f = ycon 112 harg12 (arg13.view.read (Elt F) X13) (arg14.view.read (Elt F) X14) (arg11.view.read (Elt F) G11) G12 k⌝))

set_option warn.classDefReducibility false in
/-- Loop 8 by its invariant. -/
@[sl_loop] def scanLoop_8 (𝒱 : Variants) (c : Dev nD) (bd : Option 𝒱.V) (E : Set ℕ) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (v4 : FVec F S128x2048 .f32) (v298 : Vec F S16x2048 .f32) (v302 : FVec F S16x16x128 .f32) (v303 : FVec F S16x16x128 .f32) (v304 : FVec F S16x16x128 .f32) (v305 : FVec F S16x16x128 .f32) (v306 : FVec F S16x16x128 .f32) (v307 : FVec F S16x16x128 .f32) (v308 : FVec F S16x16x128 .f32) (v309 : FVec F S16x16x128 .f32) (v310 : FVec F S16x16x128 .f32) (v311 : FVec F S16x16x128 .f32) (v312 : FVec F S16x16x128 .f32) (v313 : FVec F S16x16x128 .f32) (v314 : FVec F S16x16x128 .f32) (v315 : FVec F S16x16x128 .f32) (v316 : FVec F S16x16x128 .f32) (v317 : FVec F S16x16x128 .f32) (X13 : BufTy.Contents (Elt F) arg13.view.ty) (X14 : BufTy.Contents (Elt F) arg14.view.ty) (G11 : BufTy.Contents (Elt F) arg11.view.ty) (G12 : BufTy.Contents (Elt F) arg12.view.ty) :
    ScanInvTy_8 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v298 v302 v303 v304 v305 v306 v307 v308 v309 v310 v311 v312 v313 v314 v315 v316 v317 where
  inv := scanInv_8 (F := F) c arg13 arg14 arg11 harg11 arg12 harg12 X13 X14 G11 G12
  step k acc := by
    have hk : k.val < 16 := Nat.lt_of_lt_of_le k.isLt k1_t8_abs.2.1
    iintro ⟨HA, HU, ⟨%f11, HH, %h11⟩, ⟨%f12, HY, %h12⟩⟩
    unfold k1_t8_body
    sl_exec
    sl_step
    isplitl [HA]; · iexact HA
    isplitl [HU]; · iexact HU
    isplitl [HH]
    · iexists _; isplitl [HH]; · iexact HH
      ipureintro
      refine hcon_succ 112 harg11 _ _ G11 f11 k.val _ _ ?_
      rw [show k1_pay79 (F := F) = k1_pay13 from rfl]
      rw [readAt_slab arg13.view X13 hk (k1_off15_eq k), readAt_slab arg14.view X14 hk (k1_off15_eq k), View.readAt_full, h11, read_hcon]
    · iexists _; isplitl [HY]; · iexact HY
      ipureintro
      rw [h12]
      refine ycon_succ 112 harg12 _ _ _ G12 k.val ((k1_off16_eq k).trans (by rw [Nat.add_comm])) _ _ ?_
      rw [show k1_pay80 (F := F) = k1_pay14 from rfl]
      rw [readAt_slab arg13.view X13 hk (k1_off15_eq k), readAt_slab arg14.view X14 hk (k1_off15_eq k), View.readAt_full, h11, read_hcon]
      rfl

end Cert.KernelIdeal.Gen
-- ==== Proof.ScanVals.lean ====
/- What the scan kernel computes from one grid point's blocks and the carried state, as functions of values, and
   what the body's loads read. -/
module

public import proofs.«01_k».proof.Proof.ScanLoops
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values -/

/-- Rows `16 j .. 16 j + 16` of a 128-row block. -/
def rows16 (A : Vec F S128x2048 .f32) (j : ℕ) : Vec F S16x2048 .f32 :=
  fun y => A (ix2 ⟨(16 * j + (y 0).val) % 128, Nat.mod_lt _ (by decide)⟩ (y 1))

/-- The step sizes of the block's 128 rows. -/
def scanDt (x0 : Vec F S1x128x2048 .f32) (x2 : Vec F S32x2048 .f32) (x4 : Vec F S16x2048 .f32) (x5 : Vec F S1x2048 .f32) : Vec F S128x2048 .f32 :=
  k1_pay7 (k1_pay6 x0 x2 x4 x5)

/-- The input coefficients of the block's 128 rows, each spread over the lanes of its state. -/
def scanB (x0 : Vec F S1x128x2048 .f32) (x2 : Vec F S32x2048 .f32) (x6 : Vec F S16x2048 .f32) : Vec F S128x2048 .f32 :=
  k1_pay8 (k1_pay4 x0 x2) x6

/-- Sixteen rows' input terms, from their rows of the block, of the step sizes and of the input coefficients. -/
def scanU (xr dtr br : Vec F S16x2048 .f32) : Vec F S16x16x2048 .f32 :=
  have v72 : FVec F S16x16x128 .f32 := shapeCast S16x16x128 (mulf (dtr : FVec F S16x2048 .f32) xr) shapeCasts_S16x2048_S16x16x128
  shapeCast S16x16x2048 (mulf (concatenate S16x16x2048 2 [⟨S16x16x128, v72⟩, ⟨S16x16x128, v72⟩, ⟨S16x16x128, v72⟩, ⟨S16x16x128, v72⟩, ⟨S16x16x128, v72⟩, ⟨S16x16x128, v72⟩, ⟨S16x16x128, v72⟩, ⟨S16x16x128, v72⟩, ⟨S16x16x128, v72⟩, ⟨S16x16x128, v72⟩, ⟨S16x16x128, v72⟩, ⟨S16x16x128, v72⟩, ⟨S16x16x128, v72⟩, ⟨S16x16x128, v72⟩, ⟨S16x16x128, v72⟩, ⟨S16x16x128, v72⟩] concatenates_S16x16x128_S16x16x128_S16x16x128_S16x16x128_S16x16x128_S16x16x128_S16x16x128_S16x16x128_S16x16x128_S16x16x128_S16x16x128_S16x16x128_S16x16x128_S16x16x128_S16x16x128_S16x16x128_S16x16x2048_d2) (broadcastTo S16x16x2048 (shapeCast S16x1x2048 br shapeCasts_S16x2048_S16x1x2048) broadcasts_S16x1x2048_S16x16x2048)) shapeCasts_S16x16x2048_S16x16x2048

/-- The decay factors of the sixteen rows of group `j`. -/
def grpA (dt : Vec F S128x2048 .f32) (j : ℕ) : Vec F S16x16x2048 .f32 := k1_pay9 (rows16 dt j)

/-- The input terms of the sixteen rows of group `j`. -/
def grpU (x dt b : Vec F S128x2048 .f32) (j : ℕ) : Vec F S16x16x2048 .f32 := scanU (rows16 x j) (rows16 dt j) (rows16 b j)

/-- The state after `j` groups of sixteen steps. -/
def grpH (x dt b : Vec F S128x2048 .f32) (h : Vec F S16x2048 .f32) : ℕ → Vec F S16x2048 .f32
  | 0 => h
  | j + 1 => scanH (grpA dt j) (grpU x dt b j) (grpH x dt b h j) 16

/-- The state sums of the block's 128 rows. -/
def scanYs (x dt b : Vec F S128x2048 .f32) (h : Vec F S16x2048 .f32) : Vec F S128x16x128 .f32 :=
  fun y => scanY (grpA dt ((y 0).val / 16)) (grpU x dt b ((y 0).val / 16)) (grpH x dt b h ((y 0).val / 16)) ((y 0).val % 16) (ix3 0 (y 1) (y 2))

/-- The state the block leaves. -/
def scanEnd (x0 : Vec F S1x128x2048 .f32) (x2 : Vec F S32x2048 .f32) (x4 : Vec F S16x2048 .f32) (x5 : Vec F S1x2048 .f32) (x6 : Vec F S16x2048 .f32) (h : Vec F S16x2048 .f32) : Vec F S16x2048 .f32 :=
  grpH (k1_pay3 x0) (scanDt x0 x2 x4 x5) (scanB x0 x2 x6) h 8

/-- The block's output. -/
def scanOut (x0 x1 : Vec F S1x128x2048 .f32) (x2 : Vec F S32x2048 .f32) (x3 : Vec F S2048x2048 .f32) (x4 : Vec F S16x2048 .f32) (x5 : Vec F S1x2048 .f32) (x6 : Vec F S16x2048 .f32) (x7 : Vec F S1x2048 .f32) (h : Vec F S16x2048 .f32) : Vec F S1x128x2048 .f32 :=
  k1_pay1 (k1_pay81 (k1_pay3 x0) (scanYs (k1_pay3 x0) (scanDt x0 x2 x4 x5) (scanB x0 x2 x6) h) x1 (k1_pay5 x0 x3) x7)

/-! ## What the body's loads read, and the groups' values -/

/-- A loop of the body makes sixteen trips. -/
theorem trips_body : Scf.trips (0#32) (Scalar.addi 0#32 16#32) 1#32 = 16 := by decide

theorem read_slabs (v : View sig .tc .vmem S16x16x2048 .f32) (f : BufTy.Contents (Elt F) v.ty)
    (inb : ∀ a, (![0, 0, 0] : Fin 3 → ℕ) a + (![16, 16, 2048] : Fin 3 → ℕ) a ≤ S16x16x2048.size a)
    (w : Vec F S16x16x2048 .f32) (L : List (View.Piece (Elt F) S16x16x2048 .f32)) :
    v.read (Elt F) (v.writes (Elt F) f (⟨Rect.unit (s := S16x16x2048) ![0, 0, 0] ![16, 16, 2048] inb, w⟩ :: L)) = w :=
  View.read_writes_full v f inb w L

theorem read_block (v : View sig .tc .vmem S1x128x2048 .f32) (f : BufTy.Contents (Elt F) v.ty)
    (inb : ∀ a, (![0, 0, 0] : Fin 3 → ℕ) a + (![1, 128, 2048] : Fin 3 → ℕ) a ≤ S1x128x2048.size a)
    (w : Vec F S1x128x2048 .f32) (L : List (View.Piece (Elt F) S1x128x2048 .f32)) :
    v.read (Elt F) (v.writes (Elt F) f (⟨Rect.unit (s := S1x128x2048) ![0, 0, 0] ![1, 128, 2048] inb, w⟩ :: L)) = w :=
  View.read_writes_full v f inb w L

theorem load_block (v : View sig .tc .vmem S1x128x2048 .f32) (f : BufTy.Contents (Elt F) v.ty) (inb : ∀ a, (![0, 0, 0] : Fin 3 → ℕ) a + (![1, 128, 2048] : Fin 3 → ℕ) a ≤ S1x128x2048.size a) :
    v.readAt (Elt F) (Rect.unit (s := S1x128x2048) ![0, 0, 0] ![1, 128, 2048] inb).toLoadRect f = v.read (Elt F) f := View.readAt_full v f inb

theorem load_wx1 (v : View sig .tc .vmem S32x2048 .f32) (f : BufTy.Contents (Elt F) v.ty) (inb : ∀ a, (![0, 0] : Fin 2 → ℕ) a + (![32, 2048] : Fin 2 → ℕ) a ≤ S32x2048.size a) :
    v.readAt (Elt F) (Rect.unit (s := S32x2048) ![0, 0] ![32, 2048] inb).toLoadRect f = v.read (Elt F) f := View.readAt_full v f inb

theorem load_wx2 (v : View sig .tc .vmem S2048x2048 .f32) (f : BufTy.Contents (Elt F) v.ty) (inb : ∀ a, (![0, 0] : Fin 2 → ℕ) a + (![2048, 2048] : Fin 2 → ℕ) a ≤ S2048x2048.size a) :
    v.readAt (Elt F) (Rect.unit (s := S2048x2048) ![0, 0] ![2048, 2048] inb).toLoadRect f = v.read (Elt F) f := View.readAt_full v f inb

theorem load_lanes (v : View sig .tc .vmem S16x2048 .f32) (f : BufTy.Contents (Elt F) v.ty) (inb : ∀ a, (![0, 0] : Fin 2 → ℕ) a + (![16, 2048] : Fin 2 → ℕ) a ≤ S16x2048.size a) :
    v.readAt (Elt F) (Rect.unit (s := S16x2048) ![0, 0] ![16, 2048] inb).toLoadRect f = v.read (Elt F) f := View.readAt_full v f inb

theorem load_row (v : View sig .tc .vmem S1x2048 .f32) (f : BufTy.Contents (Elt F) v.ty) (inb : ∀ a, (![0, 0] : Fin 2 → ℕ) a + (![1, 2048] : Fin 2 → ℕ) a ≤ S1x2048.size a) :
    v.readAt (Elt F) (Rect.unit (s := S1x2048) ![0, 0] ![1, 2048] inb).toLoadRect f = v.read (Elt F) f := View.readAt_full v f inb

theorem load_sums (v : View sig .tc .vmem S128x16x128 .f32) (f : BufTy.Contents (Elt F) v.ty) (inb : ∀ a, (![0, 0, 0] : Fin 3 → ℕ) a + (![128, 16, 128] : Fin 3 → ℕ) a ≤ S128x16x128.size a) :
    v.readAt (Elt F) (Rect.unit (s := S128x16x128) ![0, 0, 0] ![128, 16, 128] inb).toLoadRect f = v.read (Elt F) f := View.readAt_full v f inb

theorem read_state (v : View sig .tc .vmem S16x2048 .f32) (f : BufTy.Contents (Elt F) v.ty)
    (inb : ∀ a, (![0, 0] : Fin 2 → ℕ) a + (![16, 2048] : Fin 2 → ℕ) a ≤ S16x2048.size a)
    (w : Vec F S16x2048 .f32) (L : List (View.Piece (Elt F) S16x2048 .f32)) :
    v.read (Elt F) (v.writes (Elt F) f (⟨Rect.unit (s := S16x2048) ![0, 0] ![16, 2048] inb, w⟩ :: L)) = w :=
  View.read_writes_full v f inb w L

theorem read_stored (v : View sig .tc .vmem S16x2048 .f32) (f : BufTy.Contents (Elt F) v.ty)
    (inb : ∀ a, (![0, 0] : Fin 2 → ℕ) a + (![16, 2048] : Fin 2 → ℕ) a ≤ S16x2048.size a) (w : Vec F S16x2048 .f32) :
    v.read (Elt F) (View.write (Elt F) (v.slice (Rect.unit (s := S16x2048) ![0, 0] ![16, 2048] inb)) f w Finset.univ) = w :=
  read_state v f inb w []

theorem load_stored (v : View sig .tc .vmem S128x2048 .f32) (w : Vec F S128x2048 .f32) (L : List (View.Piece (Elt F) S128x2048 .f32))
    (inb inb' : ∀ a, (![0, 0] : Fin 2 → ℕ) a + (![128, 2048] : Fin 2 → ℕ) a ≤ S128x2048.size a) :
    v.readCov (⟨Rect.unit (s := S128x2048) ![0, 0] ![128, 2048] inb, w⟩ :: L) (Rect.unit (s := S128x2048) ![0, 0] ![128, 2048] inb').toLoadRect = w :=
  View.readCov_full v inb' inb w L

/-- A load of sixteen rows after a store of all 128. -/
theorem readCov_rows (v : View sig .tc .vmem S128x2048 .f32) (w : Vec F S128x2048 .f32) (L : List (View.Piece (Elt F) S128x2048 .f32)) (j : ℕ) (hj : j < 8)
    {o : ℕ} (ho : o = 16 * j) (inb : ∀ a, (![0, 0] : Fin 2 → ℕ) a + S128x2048.size a ≤ S128x2048.size a)
    (inb' : ∀ a, (![o, 0] : Fin 2 → ℕ) a + S16x2048.size a ≤ S128x2048.size a) :
    v.readCov (⟨Rect.unit (s := S128x2048) ![0, 0] S128x2048.size inb, w⟩ :: L) (Rect.unit (s := S128x2048) ![o, 0] S16x2048.size inb').toLoadRect = rows16 w j := by
  subst ho
  funext y
  have h0 : (y 0).val < 16 := (y 0).isLt
  refine (congrFun (View.read_writes_full v v.junk inb w L) _).trans (congrArg w (funext fun a => Fin.ext ?_))
  match a with
  | ⟨0, _⟩ => show 16 * j + 1 * (y 0).val = (16 * j + (y 0).val) % 128; omega
  | ⟨1, _⟩ => show 0 + 1 * (y 1).val = (y 1).val; omega

/-- Sixteen rows of a block as a slice of it. -/
theorem slice_rows (w : Vec F S128x2048 .f32) (j : ℕ) (hj : j < 8) {o : ℕ} (ho : o = 16 * j) (h : S128x2048.Slices ![o, 0] S16x2048) :
    extractStridedSlice S16x2048 ![o, 0] w h = rows16 w j := by
  subst ho
  funext y
  have h0 : (y 0).val < 16 := (y 0).isLt
  refine extractStridedSlice_apply ![16 * j, 0] w h y _ fun a => ?_
  match a with
  | ⟨0, _⟩ => show (16 * j + (y 0).val) % 128 = 16 * j + (y 0).val; omega
  | ⟨1, _⟩ => show (y 1).val = 0 + (y 1).val; omega

/-- Group 0's input terms. -/
theorem input_0 (x : Vec F S128x2048 .f32) (d b : Vec F S16x2048 .f32) : k1_pay11 (k1_pay10 x d b) = scanU (rows16 x 0) d b := by
  rw [← slice_rows x 0 (by decide) (o := 0) rfl slices_S128x2048_o0_0_S16x2048]; rfl

/-- Group 1's input terms. -/
theorem input_1 (x : Vec F S128x2048 .f32) (d b : Vec F S16x2048 .f32) : k1_pay16 x d b = scanU (rows16 x 1) d b := by
  rw [← slice_rows x 1 (by decide) (o := 16) rfl slices_S128x2048_o16_0_S16x2048]; rfl

/-- Group 2's input terms. -/
theorem input_2 (x : Vec F S128x2048 .f32) (d b : Vec F S16x2048 .f32) : k1_pay21 x d b = scanU (rows16 x 2) d b := by
  rw [← slice_rows x 2 (by decide) (o := 32) rfl slices_S128x2048_o32_0_S16x2048]; rfl

/-- Group 3's input terms. -/
theorem input_3 (x : Vec F S128x2048 .f32) (d b : Vec F S16x2048 .f32) : k1_pay26 x d b = scanU (rows16 x 3) d b := by
  rw [← slice_rows x 3 (by decide) (o := 48) rfl slices_S128x2048_o48_0_S16x2048]; rfl

/-- Group 4's input terms. -/
theorem input_4 (x : Vec F S128x2048 .f32) (d b : Vec F S16x2048 .f32) : k1_pay32 x d b = scanU (rows16 x 4) d b := by
  rw [← slice_rows x 4 (by decide) (o := 64) rfl slices_S128x2048_o64_0_S16x2048]; rfl

/-- Group 5's input terms. -/
theorem input_5 (x : Vec F S128x2048 .f32) (d b : Vec F S16x2048 .f32) : k1_pay41 x d b = scanU (rows16 x 5) d b := by
  rw [← slice_rows x 5 (by decide) (o := 80) rfl slices_S128x2048_o80_0_S16x2048]; rfl

/-- Group 6's input terms. -/
theorem input_6 (x : Vec F S128x2048 .f32) (d b : Vec F S16x2048 .f32) : k1_pay56 x d b = scanU (rows16 x 6) d b := by
  rw [← slice_rows x 6 (by decide) (o := 96) rfl slices_S128x2048_o96_0_S16x2048]; rfl

/-- Group 7's input terms. -/
theorem input_7 (x : Vec F S128x2048 .f32) (d b : Vec F S16x2048 .f32) : k1_pay77 x d b = scanU (rows16 x 7) d b := by
  rw [← slice_rows x 7 (by decide) (o := 112) rfl slices_S128x2048_o112_0_S16x2048]; rfl

/-- Group 1's decay factors. -/
theorem decay_1 (v : Vec F S16x2048 .f32) : k1_pay15 v = k1_pay9 v := rfl

/-- Group 2's decay factors. -/
theorem decay_2 (v : Vec F S16x2048 .f32) : k1_pay20 v = k1_pay9 v := rfl

/-- Group 3's decay factors. -/
theorem decay_3 (v : Vec F S16x2048 .f32) : k1_pay25 v = k1_pay9 v := rfl

/-- Group 4's decay factors. -/
theorem decay_4 (v : Vec F S16x2048 .f32) : k1_pay31 (k1_pay30 v) (FloatOps.ofBits .f32 0#32) = k1_pay9 v := rfl

/-- Group 5's decay factors. -/
theorem decay_5 (v : Vec F S16x2048 .f32) : k1_pay40 (k1_pay36 v) (k1_pay37 v) (k1_pay38 v) (k1_pay39 v) = k1_pay9 v := rfl

/-- Group 6's decay factors. -/
theorem decay_6 (v : Vec F S16x2048 .f32) : k1_pay55 (k1_pay45 v) (k1_pay46 v) (k1_pay47 v) (k1_pay48 v) (k1_pay49 v) (k1_pay50 v) (k1_pay51 v) (k1_pay52 v) (k1_pay53 v) (k1_pay54 v) = k1_pay9 v := rfl

/-- Group 7's decay factors. -/
theorem decay_7 (v : Vec F S16x2048 .f32) : k1_pay76 (k1_pay60 v) (k1_pay61 v) (k1_pay62 v) (k1_pay63 v) (k1_pay64 v) (k1_pay65 v) (k1_pay66 v) (k1_pay67 v) (k1_pay68 v) (k1_pay69 v) (k1_pay70 v) (k1_pay71 v) (k1_pay72 v) (k1_pay73 v) (k1_pay74 v) (k1_pay75 v) = k1_pay9 v := rfl

theorem scanRows_mem {base : ℕ} (A U : Vec F S16x16x2048 .f32) (H : Vec F S16x2048 .f32) (Y : Vec F S128x16x128 .f32) (y : S128x16x128.Idx) (j : ℕ)
    (hb : base = 16 * j) (hy : (y 0).val / 16 = j) :
    scanRows base A U H Y 16 y = scanY A U H ((y 0).val % 16) (ix3 0 (y 1) (y 2)) := by
  unfold scanRows
  rw [if_pos (by omega), show (y 0).val - base = (y 0).val % 16 by omega]

theorem scanRows_not_mem {base : ℕ} (A U : Vec F S16x16x2048 .f32) (H : Vec F S16x2048 .f32) (Y : Vec F S128x16x128 .f32) (y : S128x16x128.Idx) (j : ℕ)
    (hb : base = 16 * j) (hy : (y 0).val / 16 ≠ j) : scanRows base A U H Y 16 y = Y y := by
  unfold scanRows
  rw [if_neg (by omega)]

/-- Eight groups of sixteen rows are all the block's rows. -/
theorem scanRows_all (A U : ℕ → Vec F S16x16x2048 .f32) (H : ℕ → Vec F S16x2048 .f32) (Y : Vec F S128x16x128 .f32) :
    scanRows 112 (A 7) (U 7) (H 7) (scanRows 96 (A 6) (U 6) (H 6) (scanRows 80 (A 5) (U 5) (H 5) (scanRows 64 (A 4) (U 4) (H 4) (scanRows 48 (A 3) (U 3) (H 3) (scanRows 32 (A 2) (U 2) (H 2) (scanRows 16 (A 1) (U 1) (H 1) (scanRows 0 (A 0) (U 0) (H 0) Y 16) 16) 16) 16) 16) 16) 16) 16
      = fun y => scanY (A ((y 0).val / 16)) (U ((y 0).val / 16)) (H ((y 0).val / 16)) ((y 0).val % 16) (ix3 0 (y 1) (y 2)) := by
  funext y
  have h0 : (y 0).val < 128 := (y 0).isLt
  have hq : (y 0).val / 16 = 0 ∨ (y 0).val / 16 = 1 ∨ (y 0).val / 16 = 2 ∨ (y 0).val / 16 = 3 ∨ (y 0).val / 16 = 4 ∨ (y 0).val / 16 = 5 ∨ (y 0).val / 16 = 6 ∨ (y 0).val / 16 = 7 := by omega
  rcases hq with h | h | h | h | h | h | h | h
  · rw [scanRows_not_mem _ _ _ _ y 7 rfl (by omega), scanRows_not_mem _ _ _ _ y 6 rfl (by omega), scanRows_not_mem _ _ _ _ y 5 rfl (by omega), scanRows_not_mem _ _ _ _ y 4 rfl (by omega), scanRows_not_mem _ _ _ _ y 3 rfl (by omega), scanRows_not_mem _ _ _ _ y 2 rfl (by omega), scanRows_not_mem _ _ _ _ y 1 rfl (by omega), scanRows_mem _ _ _ _ y 0 rfl h, h]
  · rw [scanRows_not_mem _ _ _ _ y 7 rfl (by omega), scanRows_not_mem _ _ _ _ y 6 rfl (by omega), scanRows_not_mem _ _ _ _ y 5 rfl (by omega), scanRows_not_mem _ _ _ _ y 4 rfl (by omega), scanRows_not_mem _ _ _ _ y 3 rfl (by omega), scanRows_not_mem _ _ _ _ y 2 rfl (by omega), scanRows_mem _ _ _ _ y 1 rfl h, h]
  · rw [scanRows_not_mem _ _ _ _ y 7 rfl (by omega), scanRows_not_mem _ _ _ _ y 6 rfl (by omega), scanRows_not_mem _ _ _ _ y 5 rfl (by omega), scanRows_not_mem _ _ _ _ y 4 rfl (by omega), scanRows_not_mem _ _ _ _ y 3 rfl (by omega), scanRows_mem _ _ _ _ y 2 rfl h, h]
  · rw [scanRows_not_mem _ _ _ _ y 7 rfl (by omega), scanRows_not_mem _ _ _ _ y 6 rfl (by omega), scanRows_not_mem _ _ _ _ y 5 rfl (by omega), scanRows_not_mem _ _ _ _ y 4 rfl (by omega), scanRows_mem _ _ _ _ y 3 rfl h, h]
  · rw [scanRows_not_mem _ _ _ _ y 7 rfl (by omega), scanRows_not_mem _ _ _ _ y 6 rfl (by omega), scanRows_not_mem _ _ _ _ y 5 rfl (by omega), scanRows_mem _ _ _ _ y 4 rfl h, h]
  · rw [scanRows_not_mem _ _ _ _ y 7 rfl (by omega), scanRows_not_mem _ _ _ _ y 6 rfl (by omega), scanRows_mem _ _ _ _ y 5 rfl h, h]
  · rw [scanRows_not_mem _ _ _ _ y 7 rfl (by omega), scanRows_mem _ _ _ _ y 6 rfl h, h]
  · rw [scanRows_mem _ _ _ _ y 7 rfl h, h]

/-- The first group's steps. -/
theorem grpH_one (x dt b : Vec F S128x2048 .f32) (h : Vec F S16x2048 .f32) :
    scanH (k1_pay9 (rows16 dt 0)) (scanU (rows16 x 0) (rows16 dt 0) (rows16 b 0)) h 16 = grpH x dt b h 1 := rfl

/-- A later group's steps. -/
theorem grpH_step (x dt b : Vec F S128x2048 .f32) (h : Vec F S16x2048 .f32) (j : ℕ) :
    scanH (k1_pay9 (rows16 dt j)) (scanU (rows16 x j) (rows16 dt j) (rows16 b j)) (grpH x dt b h j) 16 = grpH x dt b h (j + 1) := rfl

end Cert.KernelIdeal.Gen
-- ==== Proof.ScanBody.lean ====
/- The body of the scan kernel at one grid point: from the eight input blocks and the carried state it stores the
   output block `scanOut` and leaves the state `scanEnd`, both named outright. -/
module

public import proofs.«01_k».proof.Proof.ScanVals

@[expose] public section

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body run at a first tile of a sequence, where the carried state is zeroed: on whole buffers, the inputs at the blocks `x0 .. x7`, it comes to its end with the inputs as they were,
    the output block at `scanOut` and the carried state at `scanEnd`; the other six scratch buffers may hold anything before and after. -/
theorem scanBody_A (c : Dev nD) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (hc0 : (Scalar.cmpi .ne (Scalar.extui (Scalar.cmpi .eq (BitVec.ofNat 32 (i 1).val) 0#32)) 0#32) = 1#1)
    (x0 : Vec F S1x128x2048 .f32) (x1 : Vec F S1x128x2048 .f32) (x2 : Vec F S32x2048 .f32) (x3 : Vec F S2048x2048 .f32) (x4 : Vec F S16x2048 .f32) (x5 : Vec F S1x2048 .f32) (x6 : Vec F S16x2048 .f32) (x7 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (scanOut x0 x1 x2 x3 x4 x5 x6 x7 k1_pay2) ∗ owns (c : Thread nD τ) arg11 fullShare (scanEnd x0 x2 x4 x5 x6 k1_pay2) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
    ⊢ wp frame (wpE (defs₀ (F := F)) Variants.none c none) E (cc1_s6_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1_s6_scan_eq_skeleton]; unfold cc1_s6_scan_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    delta scanBody_A.sl.r_36 scanBody_A.sl.v334
    simp only [trips_body, load_sums, read_hcon, read_ycon, Memref.IsWhole.read_unread, read_slabs, read_block, read_stored, Nat.reduceAdd]
    delta scanBody_A.sl.r scanBody_A.sl.r_1 scanBody_A.sl.r_2 scanBody_A.sl.r_3 scanBody_A.sl.r_4 scanBody_A.sl.r_5 scanBody_A.sl.r_6 scanBody_A.sl.r_7 scanBody_A.sl.r_8 scanBody_A.sl.r_9 scanBody_A.sl.r_10 scanBody_A.sl.r_11 scanBody_A.sl.r_12 scanBody_A.sl.r_13 scanBody_A.sl.r_14 scanBody_A.sl.r_15 scanBody_A.sl.r_16 scanBody_A.sl.r_17 scanBody_A.sl.r_18 scanBody_A.sl.r_19 scanBody_A.sl.r_20 scanBody_A.sl.r_21 scanBody_A.sl.r_22 scanBody_A.sl.r_23 scanBody_A.sl.r_24 scanBody_A.sl.r_25 scanBody_A.sl.r_26 scanBody_A.sl.r_27 scanBody_A.sl.r_28 scanBody_A.sl.r_29 scanBody_A.sl.r_30 scanBody_A.sl.r_31 scanBody_A.sl.r_32 scanBody_A.sl.r_33 scanBody_A.sl.r_34 scanBody_A.sl.r_35 scanBody_A.sl.r_36 scanBody_A.sl.cst_80 scanBody_A.sl.HS2_1 scanBody_A.sl.HS3_1 scanBody_A.sl.HS4_1 scanBody_A.sl.HS5_1 scanBody_A.sl.HS6_1 scanBody_A.sl.v334 scanBody_A.sl.v338 scanBody_A.sl.v46 scanBody_A.sl.v82 scanBody_A.sl.v118 scanBody_A.sl.v154 scanBody_A.sl.v190 scanBody_A.sl.v226 scanBody_A.sl.v262 scanBody_A.sl.v298 scanBody_A.sl.v74 scanBody_A.sl.v110 scanBody_A.sl.v146 scanBody_A.sl.v182 scanBody_A.sl.v218 scanBody_A.sl.v254 scanBody_A.sl.v290 scanBody_A.sl.v326
    simp only [View.readAt_full, View.readCov_full, readCov_rows _ _ _ 0 (by decide) (o := 0) rfl, readCov_rows _ _ _ 1 (by decide) (o := 16) rfl, readCov_rows _ _ _ 2 (by decide) (o := 32) rfl, readCov_rows _ _ _ 3 (by decide) (o := 48) rfl, readCov_rows _ _ _ 4 (by decide) (o := 64) rfl, readCov_rows _ _ _ 5 (by decide) (o := 80) rfl, readCov_rows _ _ _ 6 (by decide) (o := 96) rfl, readCov_rows _ _ _ 7 (by decide) (o := 112) rfl, Memref.IsWhole.read_unread]
    simp only [load_block, load_wx1, load_wx2, load_lanes, load_row, load_sums, trips_body, read_hcon, read_ycon, Memref.IsWhole.read_unread, read_slabs, read_block, read_state, read_stored, load_stored, input_0, input_1, input_2, input_3, input_4, input_5, input_6, input_7, decay_1, decay_2, decay_3, decay_4, decay_5, decay_6, decay_7, Nat.reduceAdd, grpH_one, grpH_step]
    exact congrArg (fun t => k1_pay1 (k1_pay81 (k1_pay3 x0) t x1 (k1_pay5 x0 x3) x7))
      (scanRows_all (grpA (scanDt x0 x2 x4 x5)) (grpU (k1_pay3 x0) (scanDt x0 x2 x4 x5) (scanB x0 x2 x6)) (grpH (k1_pay3 x0) (scanDt x0 x2 x4 x5) (scanB x0 x2 x6) k1_pay2) _)
  isplitl [HS0]
  · iexists _; isplitr; swap; · iexact HS0
    ipureintro
    simp only [trips_body, load_sums, read_hcon, read_ycon, Memref.IsWhole.read_unread, read_slabs, read_block, read_stored, Nat.reduceAdd]
    delta scanBody_A.sl.r scanBody_A.sl.r_1 scanBody_A.sl.r_2 scanBody_A.sl.r_3 scanBody_A.sl.r_4 scanBody_A.sl.r_5 scanBody_A.sl.r_6 scanBody_A.sl.r_7 scanBody_A.sl.r_8 scanBody_A.sl.r_9 scanBody_A.sl.r_10 scanBody_A.sl.r_11 scanBody_A.sl.r_12 scanBody_A.sl.r_13 scanBody_A.sl.r_14 scanBody_A.sl.r_15 scanBody_A.sl.r_16 scanBody_A.sl.r_17 scanBody_A.sl.r_18 scanBody_A.sl.r_19 scanBody_A.sl.r_20 scanBody_A.sl.r_21 scanBody_A.sl.r_22 scanBody_A.sl.r_23 scanBody_A.sl.r_24 scanBody_A.sl.r_25 scanBody_A.sl.r_26 scanBody_A.sl.r_27 scanBody_A.sl.r_28 scanBody_A.sl.r_29 scanBody_A.sl.r_30 scanBody_A.sl.r_31 scanBody_A.sl.r_32 scanBody_A.sl.r_33 scanBody_A.sl.r_34 scanBody_A.sl.r_35 scanBody_A.sl.r_36 scanBody_A.sl.cst_80 scanBody_A.sl.HS2_1 scanBody_A.sl.HS3_1 scanBody_A.sl.HS4_1 scanBody_A.sl.HS5_1 scanBody_A.sl.HS6_1 scanBody_A.sl.v334 scanBody_A.sl.v338 scanBody_A.sl.v46 scanBody_A.sl.v82 scanBody_A.sl.v118 scanBody_A.sl.v154 scanBody_A.sl.v190 scanBody_A.sl.v226 scanBody_A.sl.v262 scanBody_A.sl.v298 scanBody_A.sl.v74 scanBody_A.sl.v110 scanBody_A.sl.v146 scanBody_A.sl.v182 scanBody_A.sl.v218 scanBody_A.sl.v254 scanBody_A.sl.v290 scanBody_A.sl.v326
    simp only [View.readAt_full, View.readCov_full, readCov_rows _ _ _ 0 (by decide) (o := 0) rfl, readCov_rows _ _ _ 1 (by decide) (o := 16) rfl, readCov_rows _ _ _ 2 (by decide) (o := 32) rfl, readCov_rows _ _ _ 3 (by decide) (o := 48) rfl, readCov_rows _ _ _ 4 (by decide) (o := 64) rfl, readCov_rows _ _ _ 5 (by decide) (o := 80) rfl, readCov_rows _ _ _ 6 (by decide) (o := 96) rfl, readCov_rows _ _ _ 7 (by decide) (o := 112) rfl, Memref.IsWhole.read_unread]
    simp only [load_block, load_wx1, load_wx2, load_lanes, load_row, load_sums, trips_body, read_hcon, read_ycon, Memref.IsWhole.read_unread, read_slabs, read_block, read_state, read_stored, load_stored, input_0, input_1, input_2, input_3, input_4, input_5, input_6, input_7, decay_1, decay_2, decay_3, decay_4, decay_5, decay_6, decay_7, Nat.reduceAdd, grpH_one, grpH_step]
    rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  iexists _, _; isplitr; swap; · iexact HS6
  ipureintro; rfl

set_option maxHeartbeats 4000000 in
/-- The body run at a later tile, from the carried state `h`: on whole buffers, the inputs at the blocks `x0 .. x7`, it comes to its end with the inputs as they were,
    the output block at `scanOut` and the carried state at `scanEnd`; the other six scratch buffers may hold anything before and after. -/
theorem scanBody_B (c : Dev nD) (i : grid1.Coords) (arg2 : Memref sig .tc .vmem S1x128x2048 .f32) (harg2 : arg2.IsWhole) (arg3 : Memref sig .tc .vmem S1x128x2048 .f32) (harg3 : arg3.IsWhole) (arg4 : Memref sig .tc .vmem S32x2048 .f32) (harg4 : arg4.IsWhole) (arg5 : Memref sig .tc .vmem S2048x2048 .f32) (harg5 : arg5.IsWhole) (arg6 : Memref sig .tc .vmem S16x2048 .f32) (harg6 : arg6.IsWhole) (arg7 : Memref sig .tc .vmem S1x2048 .f32) (harg7 : arg7.IsWhole) (arg8 : Memref sig .tc .vmem S16x2048 .f32) (harg8 : arg8.IsWhole) (arg9 : Memref sig .tc .vmem S1x2048 .f32) (harg9 : arg9.IsWhole) (arg10 : Memref sig .tc .vmem S1x128x2048 .f32) (harg10 : arg10.IsWhole) (arg11 : Memref sig .tc .vmem S16x2048 .f32) (harg11 : arg11.IsWhole) (arg12 : Memref sig .tc .vmem S128x16x128 .f32) (harg12 : arg12.IsWhole) (arg13 : Memref sig .tc .vmem S16x16x2048 .f32) (harg13 : arg13.IsWhole) (arg14 : Memref sig .tc .vmem S16x16x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S128x2048 .f32) (harg17 : arg17.IsWhole) (hc0 : ¬(Scalar.cmpi .ne (Scalar.extui (Scalar.cmpi .eq (BitVec.ofNat 32 (i 1).val) 0#32)) 0#32) = 1#1)
    (x0 : Vec F S1x128x2048 .f32) (x1 : Vec F S1x128x2048 .f32) (x2 : Vec F S32x2048 .f32) (x3 : Vec F S2048x2048 .f32) (x4 : Vec F S16x2048 .f32) (x5 : Vec F S1x2048 .f32) (x6 : Vec F S16x2048 .f32) (x7 : Vec F S1x2048 .f32) (h : Vec F S16x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare h ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (scanOut x0 x1 x2 x3 x4 x5 x6 x7 h) ∗ owns (c : Thread nD τ) arg11 fullShare (scanEnd x0 x2 x4 x5 x6 h) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
    ⊢ wp frame (wpE (defs₀ (F := F)) Variants.none c none) E (cc1_s6_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1_s6_scan_eq_skeleton]; unfold cc1_s6_scan_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    delta scanBody_B.sl.r_36 scanBody_B.sl.v334
    simp only [trips_body, load_sums, read_hcon, read_ycon, Memref.IsWhole.read_unread, read_slabs, read_block, read_stored, Nat.reduceAdd]
    delta scanBody_B.sl.r scanBody_B.sl.r_1 scanBody_B.sl.r_2 scanBody_B.sl.r_3 scanBody_B.sl.r_4 scanBody_B.sl.r_5 scanBody_B.sl.r_6 scanBody_B.sl.r_7 scanBody_B.sl.r_8 scanBody_B.sl.r_9 scanBody_B.sl.r_10 scanBody_B.sl.r_11 scanBody_B.sl.r_12 scanBody_B.sl.r_13 scanBody_B.sl.r_14 scanBody_B.sl.r_15 scanBody_B.sl.r_16 scanBody_B.sl.r_17 scanBody_B.sl.r_18 scanBody_B.sl.r_19 scanBody_B.sl.r_20 scanBody_B.sl.r_21 scanBody_B.sl.r_22 scanBody_B.sl.r_23 scanBody_B.sl.r_24 scanBody_B.sl.r_25 scanBody_B.sl.r_26 scanBody_B.sl.r_27 scanBody_B.sl.r_28 scanBody_B.sl.r_29 scanBody_B.sl.r_30 scanBody_B.sl.r_31 scanBody_B.sl.r_32 scanBody_B.sl.r_33 scanBody_B.sl.r_34 scanBody_B.sl.r_35 scanBody_B.sl.r_36 scanBody_B.sl.cst_80 scanBody_B.sl.HS2_1 scanBody_B.sl.HS3_1 scanBody_B.sl.HS4_1 scanBody_B.sl.HS5_1 scanBody_B.sl.HS6_1 scanBody_B.sl.v334 scanBody_B.sl.v338 scanBody_B.sl.v46 scanBody_B.sl.v82 scanBody_B.sl.v118 scanBody_B.sl.v154 scanBody_B.sl.v190 scanBody_B.sl.v226 scanBody_B.sl.v262 scanBody_B.sl.v298 scanBody_B.sl.v74 scanBody_B.sl.v110 scanBody_B.sl.v146 scanBody_B.sl.v182 scanBody_B.sl.v218 scanBody_B.sl.v254 scanBody_B.sl.v290 scanBody_B.sl.v326
    simp only [View.readAt_full, View.readCov_full, readCov_rows _ _ _ 0 (by decide) (o := 0) rfl, readCov_rows _ _ _ 1 (by decide) (o := 16) rfl, readCov_rows _ _ _ 2 (by decide) (o := 32) rfl, readCov_rows _ _ _ 3 (by decide) (o := 48) rfl, readCov_rows _ _ _ 4 (by decide) (o := 64) rfl, readCov_rows _ _ _ 5 (by decide) (o := 80) rfl, readCov_rows _ _ _ 6 (by decide) (o := 96) rfl, readCov_rows _ _ _ 7 (by decide) (o := 112) rfl, Memref.IsWhole.read_unread]
    simp only [load_block, load_wx1, load_wx2, load_lanes, load_row, load_sums, trips_body, read_hcon, read_ycon, Memref.IsWhole.read_unread, read_slabs, read_block, read_state, read_stored, load_stored, input_0, input_1, input_2, input_3, input_4, input_5, input_6, input_7, decay_1, decay_2, decay_3, decay_4, decay_5, decay_6, decay_7, Nat.reduceAdd, grpH_one, grpH_step]
    rw [hfs0]
    exact congrArg (fun t => k1_pay1 (k1_pay81 (k1_pay3 x0) t x1 (k1_pay5 x0 x3) x7))
      (scanRows_all (grpA (scanDt x0 x2 x4 x5)) (grpU (k1_pay3 x0) (scanDt x0 x2 x4 x5) (scanB x0 x2 x6)) (grpH (k1_pay3 x0) (scanDt x0 x2 x4 x5) (scanB x0 x2 x6) h) _)
  isplitl [HS0]
  · iexists _; isplitr; swap; · iexact HS0
    ipureintro
    simp only [trips_body, load_sums, read_hcon, read_ycon, Memref.IsWhole.read_unread, read_slabs, read_block, read_stored, Nat.reduceAdd]
    delta scanBody_B.sl.r scanBody_B.sl.r_1 scanBody_B.sl.r_2 scanBody_B.sl.r_3 scanBody_B.sl.r_4 scanBody_B.sl.r_5 scanBody_B.sl.r_6 scanBody_B.sl.r_7 scanBody_B.sl.r_8 scanBody_B.sl.r_9 scanBody_B.sl.r_10 scanBody_B.sl.r_11 scanBody_B.sl.r_12 scanBody_B.sl.r_13 scanBody_B.sl.r_14 scanBody_B.sl.r_15 scanBody_B.sl.r_16 scanBody_B.sl.r_17 scanBody_B.sl.r_18 scanBody_B.sl.r_19 scanBody_B.sl.r_20 scanBody_B.sl.r_21 scanBody_B.sl.r_22 scanBody_B.sl.r_23 scanBody_B.sl.r_24 scanBody_B.sl.r_25 scanBody_B.sl.r_26 scanBody_B.sl.r_27 scanBody_B.sl.r_28 scanBody_B.sl.r_29 scanBody_B.sl.r_30 scanBody_B.sl.r_31 scanBody_B.sl.r_32 scanBody_B.sl.r_33 scanBody_B.sl.r_34 scanBody_B.sl.r_35 scanBody_B.sl.r_36 scanBody_B.sl.cst_80 scanBody_B.sl.HS2_1 scanBody_B.sl.HS3_1 scanBody_B.sl.HS4_1 scanBody_B.sl.HS5_1 scanBody_B.sl.HS6_1 scanBody_B.sl.v334 scanBody_B.sl.v338 scanBody_B.sl.v46 scanBody_B.sl.v82 scanBody_B.sl.v118 scanBody_B.sl.v154 scanBody_B.sl.v190 scanBody_B.sl.v226 scanBody_B.sl.v262 scanBody_B.sl.v298 scanBody_B.sl.v74 scanBody_B.sl.v110 scanBody_B.sl.v146 scanBody_B.sl.v182 scanBody_B.sl.v218 scanBody_B.sl.v254 scanBody_B.sl.v290 scanBody_B.sl.v326
    simp only [View.readAt_full, View.readCov_full, readCov_rows _ _ _ 0 (by decide) (o := 0) rfl, readCov_rows _ _ _ 1 (by decide) (o := 16) rfl, readCov_rows _ _ _ 2 (by decide) (o := 32) rfl, readCov_rows _ _ _ 3 (by decide) (o := 48) rfl, readCov_rows _ _ _ 4 (by decide) (o := 64) rfl, readCov_rows _ _ _ 5 (by decide) (o := 80) rfl, readCov_rows _ _ _ 6 (by decide) (o := 96) rfl, readCov_rows _ _ _ 7 (by decide) (o := 112) rfl, Memref.IsWhole.read_unread]
    simp only [load_block, load_wx1, load_wx2, load_lanes, load_row, load_sums, trips_body, read_hcon, read_ycon, Memref.IsWhole.read_unread, read_slabs, read_block, read_state, read_stored, load_stored, input_0, input_1, input_2, input_3, input_4, input_5, input_6, input_7, decay_1, decay_2, decay_3, decay_4, decay_5, decay_6, decay_7, Nat.reduceAdd, grpH_one, grpH_step]
    rw [hfs0]
    rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  iexists _, _; isplitr; swap; · iexact HS6
  ipureintro; rfl

end Cert.KernelIdeal.Gen
-- ==== Proof.Region1.lean ====
/- The second call, the selective scan: the state is carried from tile to tile of a sequence in a scratch buffer. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.VecWindow
public import Idealize.ShloMosaic.Lib.WordCmp
public import proofs.«01_k».proof.Proof.ScanBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first tile of a sequence, where the state is zeroed. -/
abbrev firstTile (i : grid1.Coords) : Prop := (Scalar.cmpi .ne (Scalar.extui (Scalar.cmpi .eq (BitVec.ofNat 32 (i 1).val) 0#32)) 0#32) = 1#1
theorem firstTile_iff : ∀ t : Fin cfg1.N, firstTile (grid1.coords t) ↔ t.val % 16 = 0 :=
  (by decide +kernel : ∀ t : Fin grid1.N, firstTile (grid1.coords t) ↔ t.val % 16 = 0)

/-! The scratch buffers. -/

abbrev scM1_0 : Memref sig .tc .vmem S16x2048 .f32 := Memref.whole cc1_scratch0
abbrev scM1_1 : Memref sig .tc .vmem S128x16x128 .f32 := Memref.whole cc1_scratch1
abbrev scM1_2 : Memref sig .tc .vmem S16x16x2048 .f32 := Memref.whole cc1_scratch2
abbrev scM1_3 : Memref sig .tc .vmem S16x16x2048 .f32 := Memref.whole cc1_scratch3
abbrev scM1_4 : Memref sig .tc .vmem S128x2048 .f32 := Memref.whole cc1_scratch4
abbrev scM1_5 : Memref sig .tc .vmem S128x2048 .f32 := Memref.whole cc1_scratch5
abbrev scM1_6 : Memref sig .tc .vmem S128x2048 .f32 := Memref.whole cc1_scratch6

/-- What the scan holds beside its windows: the other calls' staging buffers, its seven scratch buffers at anything and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d) ∗ (∃ d, owns (c : Thread nD τ) scM1_6 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := by
  unfold Pipeline.ΦA; rw [scopedRest1_eq]; simp only [scM1_0, scM1_1, scM1_2, scM1_3, scM1_4, scM1_5, scM1_6, owns_whole]; try rfl

/-- The same with the carried state at `h`. -/
def carried (c : Dev nD) (h : Vec F S16x2048 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare h ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d) ∗ (∃ d, owns (c : Thread nD τ) scM1_6 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

/-- A state that is known may be forgotten. -/
theorem carried_forget (c : Dev nD) (h : Vec F S16x2048 .f32) : carried c h ⊢ (Pipeline.ΦA spec1 c : sProp 𝕄) := by
  rw [PhiA1_eq]; unfold carried
  iintro ⟨⟨HR0, HR1, HR2, HR3, HR4, HR5, HR6, HR7, HR8, HR9, HS0, HS1, HS2, HS3, HS4, HS5, HS6, HR17, HR18, HR19, HR20, HR21⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HS0]; · iexists _; iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HR17]; · iexact HR17
    isplitl [HR18]; · iexact HR18
    isplitl [HR19]; · iexact HR19
    isplitl [HR20]; · iexact HR20
    iexact HR21
  iexact Hg

-- what the TensorCore's buffers hold when the region is entered
variable (V : (c : Dev nD) → (b : Ref sig .tc) → Buf (Elt F) ((c : Thread nD τ).loc b))

/-- Window `w`'s block of its array at grid point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The state left by the tile at point `n`: from zero at a sequence's first tile, else from what the tile before left. -/
def stateAt (c : Dev nD) : (n : ℕ) → n < cfg1.N → Vec F S16x2048 .f32
  | 0, hn => scanEnd (iblk1 V c 0 ⟨0, hn⟩) (iblk1 V c 2 ⟨0, hn⟩) (iblk1 V c 4 ⟨0, hn⟩) (iblk1 V c 5 ⟨0, hn⟩) (iblk1 V c 6 ⟨0, hn⟩) k1_pay2
  | n + 1, hn => scanEnd (iblk1 V c 0 ⟨n + 1, hn⟩) (iblk1 V c 2 ⟨n + 1, hn⟩) (iblk1 V c 4 ⟨n + 1, hn⟩) (iblk1 V c 5 ⟨n + 1, hn⟩) (iblk1 V c 6 ⟨n + 1, hn⟩)
      (if (n + 1) % 16 = 0 then k1_pay2 else stateAt c n (Nat.lt_of_succ_lt hn))

/-- The state the tile at point `t` starts from. -/
def stateIn (c : Dev nD) (t : Fin cfg1.N) : Vec F S16x2048 .f32 :=
  if t.val % 16 = 0 then k1_pay2 else stateAt V c (t.val - 1) (by have := t.isLt; omega)

theorem stateAt_eq (c : Dev nD) (t : Fin cfg1.N) :
    stateAt V c t.val t.isLt = scanEnd (iblk1 V c 0 t) (iblk1 V c 2 t) (iblk1 V c 4 t) (iblk1 V c 5 t) (iblk1 V c 6 t) (stateIn V c t) := by
  obtain ⟨n, hn⟩ := t
  cases n with
  | zero => rfl
  | succ n => rfl

/-- The block stored at point `t`. -/
def scanAt (c : Dev nD) (t : Fin cfg1.N) : Vec F S1x128x2048 .f32 :=
  scanOut (iblk1 V c 0 t) (iblk1 V c 1 t) (iblk1 V c 2 t) (iblk1 V c 3 t) (iblk1 V c 4 t) (iblk1 V c 5 t) (iblk1 V c 6 t) (iblk1 V c 7 t) (stateIn V c t)

/-- What is held before point `n`: anything before the first, then the state the point before left. -/
def PhiS (c : Dev nD) : (n : ℕ) → n ≤ cfg1.N → sProp 𝕄
  | 0, _ => Pipeline.ΦA spec1 c
  | n + 1, hn => carried c (stateAt V c n hn)

theorem PhiS_forget (c : Dev nD) (n : ℕ) (hn : n ≤ cfg1.N) : PhiS V c n hn ⊢ (Pipeline.ΦA spec1 c : sProp 𝕄) := by
  cases n with
  | zero => exact .rfl
  | succ n => exact carried_forget c _

theorem PhiS_pos (c : Dev nD) (n : ℕ) (hn : n ≤ cfg1.N) (hz : n ≠ 0) :
    PhiS V c n hn = carried c (stateAt V c (n - 1) (by omega)) := by
  cases n with
  | zero => exact absurd rfl hz
  | succ n => rfl

/-! The staging buffer of each window at point `t`, and that it is whole. -/

abbrev ms1_0 (t : Fin cfg1.N) : Memref sig .tc .vmem S1x128x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2048 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S16x2048 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2048 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128x2048 .f32 := win1_8.stage (cfg1.slots t 8)
abbrev hs1_8 (t : Fin cfg1.N) : (ms1_8 t).IsWhole := hstage1_8 ((cfg1.slots t 8).cast nbuf1_8)

/-- The data of the scan: arrays as found, inputs left in place, the output at `scanAt`, the state carried. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => scanAt V c t
  Φ t := PhiS V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

/-! After the body each input's buffer holds its block, the output's the named block. -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = scanAt V c t := by dsimp only [dat1]

/-! Before the body, too, each input's buffer holds its block, whether it was fetched at this point or not. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body starts from at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- What the body leaves at point `t`. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 3200000 in
/-- The body at any point leaves what the data say. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = carried c (stateAt V c t.val t.isLt) from rfl, PhiS_castSucc,
    show (dat1 V c).owesAt () t.succ = (dat1 V c).owesAt () t.castSucc from rfl,
    after1_0, after1_1, after1_2, after1_3, after1_4, after1_5, after1_6, after1_7, after1_8, stateAt_eq]
  unfold scanAt stateIn
  by_cases h0 : t.val % 16 = 0
  · simp only [if_pos h0]
    unfold carried
    have hforget := PhiS_forget V c t.val (Nat.le_of_lt t.isLt)
    rw [PhiA1_eq] at hforget
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ := hforget $$ HΦ
    icases HΦ with ⟨⟨HR0, HR1, HR2, HR3, HR4, HR5, HR6, HR7, HR8, HR9, HS0, HS1, HS2, HS3, HS4, HS5, HS6, HR17, HR18, HR19, HR20, HR21⟩, Hg⟩
    iapply (scanBody_A c (grid1.coords t) _ _ _ _ _ _ _ _ _ _ _ _ _ _ _ _ _ _ scM1_0 (Memref.isWhole_whole _) scM1_1 (Memref.isWhole_whole _) scM1_2 (Memref.isWhole_whole _) scM1_3 (Memref.isWhole_whole _) scM1_4 (Memref.isWhole_whole _) scM1_5 (Memref.isWhole_whole _) scM1_6 (Memref.isWhole_whole _) ((firstTile_iff t).mpr h0) (iblk1 V c 0 t) (iblk1 V c 1 t) (iblk1 V c 2 t) (iblk1 V c 3 t) (iblk1 V c 4 t) (iblk1 V c 5 t) (iblk1 V c 6 t) (iblk1 V c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, HS0, HS1, HS2, HS3, HS4, HS5, HS6⟩
    isplitl [HR0 HR1 HR2 HR3 HR4 HR5 HR6 HR7 HR8 HR9 HS0 HS1 HS2 HS3 HS4 HS5 HS6 HR17 HR18 HR19 HR20 HR21 Hg]
    · isplitr [Hg]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HR17]; · iexact HR17
        isplitl [HR18]; · iexact HR18
        isplitl [HR19]; · iexact HR19
        isplitl [HR20]; · iexact HR20
        iexact HR21
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [if_neg h0]
    rw [PhiS_pos V c _ _ (fun e => h0 (by omega))]
    unfold carried
    iintro ⟨⟨⟨HR0, HR1, HR2, HR3, HR4, HR5, HR6, HR7, HR8, HR9, HS0, HS1, HS2, HS3, HS4, HS5, HS6, HR17, HR18, HR19, HR20, HR21⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (scanBody_B c (grid1.coords t) _ _ _ _ _ _ _ _ _ _ _ _ _ _ _ _ _ _ scM1_0 (Memref.isWhole_whole _) scM1_1 (Memref.isWhole_whole _) scM1_2 (Memref.isWhole_whole _) scM1_3 (Memref.isWhole_whole _) scM1_4 (Memref.isWhole_whole _) scM1_5 (Memref.isWhole_whole _) scM1_6 (Memref.isWhole_whole _) (fun h => h0 ((firstTile_iff t).mp h)) (iblk1 V c 0 t) (iblk1 V c 1 t) (iblk1 V c 2 t) (iblk1 V c 3 t) (iblk1 V c 4 t) (iblk1 V c 5 t) (iblk1 V c 6 t) (iblk1 V c 7 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, HS0, HS1, HS2, HS3, HS4, HS5, HS6⟩
    isplitl [HR0 HR1 HR2 HR3 HR4 HR5 HR6 HR7 HR8 HR9 HS0 HS1 HS2 HS3 HS4 HS5 HS6 HR17 HR18 HR19 HR20 HR21 Hg]
    · isplitr [Hg]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HR17]; · iexact HR17
        isplitl [HR18]; · iexact HR18
        isplitl [HR19]; · iexact HR19
        isplitl [HR20]; · iexact HR20
        iexact HR21
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body of the table at point `t` is the kernel body on that point's buffers. -/
theorem defs₀_row1 (t : Fin cfg1.N) :
    defs₀ (F := F) .tc cfg1.body (cfg1.bodyArgs t (cfg1.slots t)) = bodyAt1 t := by
  unfold defs₀; rw [Defs.onTc_tc]

/-- The body's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen
-- ==== Proof.Region2.lean ====
/- The third call, the out-projection: over a block of 512 rows the product with the weight. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at any block. -/
theorem projBody (c : Dev nD) (i : grid2.Coords) (arg2 : Memref sig .tc .vmem S1x512x2048 .f32) (harg2 : arg2.IsWhole) (arg3 : Memref sig .tc .vmem S1024x2048 .f32) (harg3 : arg3.IsWhole) (arg4 : Memref sig .tc .vmem S1x512x1024 .f32) (harg4 : arg4.IsWhole)
    (x0 : Vec F S1x512x2048 .f32) (x1 : Vec F S1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
      ∗ (iprop(owns (c : Thread nD τ) arg2 fullShare x0 ∗ owns (c : Thread nD τ) arg3 fullShare x1 ∗ owns (c : Thread nD τ) arg4 fullShare (k2_pay1 x0 x1)) -∗ K ⟨⟩))
    ⊢ wp frame (wpE (defs₀ (F := F)) Variants.none c none) E (cc2_s6_outproj i arg2 harg2 arg3 harg3 arg4 harg4) K := by
  simp only [cc2_s6_outproj_eq_skeleton]; unfold cc2_s6_outproj_skel
  unfold owns
  iintro ⟨⟨%f0, %hf0, H0⟩, ⟨%f1, %hf1, H1⟩, ⟨%d, %f, -, Ho⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact Ho
  ipureintro
  refine (View.read_writes_full ..).trans ?_
  exact congr (congrArg k2_pay1 ((View.readAt_full ..).trans (harg2.read_unread x0))) ((View.readAt_full ..).trans (harg3.read_unread x1))

-- what the TensorCore's buffers hold when the region is entered
variable (V : (c : Dev nD) → (b : Ref sig .tc) → Buf (Elt F) ((c : Thread nD τ).loc b))

/-- Window `w`'s block of its array at grid point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! The staging buffer of each window at point `t`, and that it is whole. -/

abbrev ms2_0 (t : Fin cfg2.N) : Memref sig .tc .vmem S1x512x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x1024 .f32 := win2_2.stage (cfg2.slots t 2)
abbrev hs2_2 (t : Fin cfg2.N) : (ms2_2 t).IsWhole := hstage2_2 ((cfg2.slots t 2).cast nbuf2_2)

/-- The data of the third call. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-! After the body each input's buffer holds its block, the output's the named block. -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay1 (iblk2 V c 0 t) (iblk2 V c 1 t) := by dsimp only [dat2]

/-! Before the body, too, each input's buffer holds its block, whether it was fetched at this point or not. -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- What the body starts from at point `t`. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- What the body leaves at point `t`. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

/-- The body at any point leaves what the data say. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (projBody c (grid2.coords t) _ _ _ _ _ _  (iblk2 V c 0 t) (iblk2 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body of the table at point `t` is the kernel body on that point's buffers. -/
theorem defs₀_row2 (t : Fin cfg2.N) :
    defs₀ (F := F) .tc cfg2.body (cfg2.bodyArgs t (cfg2.slots t)) = bodyAt2 t := by
  unfold defs₀; rw [Defs.onTc_tc]

/-- The body's obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Gen
-- ==== Proof.Run.lean ====
/- The whole program: host operations, the in-projection, host operations, the scan, the out-projection; what every buffer holds between them
   and at the end. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.VecWindow
public import Idealize.ShloMosaic.Lib.WordCmp
public import proofs.«01_k».proof.Proof.Region0
public import proofs.«01_k».proof.Proof.Region1
public import proofs.«01_k».proof.Proof.Region2

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9]

/-- The host operations before the first call allocate nothing; -/
theorem hostOps0_fresh : (hostOps0 : List (HloOp τ sig (Elt F))).Forall fun op => op.fresh = ∅ := by
  simp only [List.Forall]; repeat' constructor
/-- they write these buffers, -/
abbrev hostOps0_W : List (Ref sig .tc) := [main_call0_v0, main_call0_v1, main_call0_v2]
theorem hostOps0_writes : (hostOps0 : List (HloOp τ sig (Elt F))).Forall fun op => op.writes ⊆ (hostOps0_W.map (Proc.devRef (τ := τ) .tc)).toFinset :=
  StableHlo.forall_writes_sub_of_map rfl
/-- and no argument is among them. -/
theorem hostOps0_args : ∀ a ∈ argRefs, a ∉ hostOps0_W := ListAll.forall_mem_of_all_decide (by decide +kernel)

/-- The host operations before the second call allocate nothing; -/
theorem hostOps1_fresh : (hostOps1 : List (HloOp τ sig (Elt F))).Forall fun op => op.fresh = ∅ := by
  simp only [List.Forall]; repeat' constructor
/-- they write these buffers, -/
abbrev hostOps1_W : List (Ref sig .tc) := [main_call0_v4, main_call0_v5, main_call0_c, main_call0_call0_v0, main_call0_call0_v1, main_call0_call0_v2, main_call0_call0_v3, main_call0_call0_v4, main_call0_call0_v5, main_call0_call0_v6, main_call0_call0_v7, main_call0_call0_v8, main_call0_call0_c, main_call0_call0_v9, main_call0_call0_v10, main_call0_call0_v11, main_call0_call0_c_0, main_call0_call0_v12, main_call0_call0_v13, main_call0_v6, main_call0_v7, main_call0_v8, main_call0_v9, main_call0_v10, main_call0_v11, main_call0_v12, main_call0_v13, main_call0_v14, main_call0_v15, main_call0_v16, main_call0_v17]
theorem hostOps1_writes : (hostOps1 : List (HloOp τ sig (Elt F))).Forall fun op => op.writes ⊆ (hostOps1_W.map (Proc.devRef (τ := τ) .tc)).toFinset :=
  StableHlo.forall_writes_sub_of_map rfl
/-- and no argument is among them. -/
theorem hostOps1_args : ∀ a ∈ argRefs, a ∉ hostOps1_W := ListAll.forall_mem_of_all_decide (by decide +kernel)

/-- What the buffers hold at the start; -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- before the first call; -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- after the first call: its arrays as the call leaves them, the rest as before; -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- (a buffer that is no output of the call keeps what it held) -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- before the second call; -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- after the second call; -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- (a buffer that is no output of the call keeps what it held) -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- after the third call, at the end. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- (a buffer that is no output of the call keeps what it held) -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- No call has a prefetched table. -/
abbrev adm : (p : Fin 3) → (pcfgs (F := F) p).Adm := fun p => (cfgs p).toPCfg_adm
/-- The data of the three calls, each from what the buffers hold when it is entered. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What goes through every part of the run unread: the generator register and the empty debt. -/
abbrev R (c : Dev nD) : sProp 𝕄 := iprop((∃ r, prngReg c r) ∗ ∃ W, owes (c : Thread nD τ) (0 : CellTallies nD τ sig Unit) W)
/-- A stretch of host operations as a part of the run. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Every buffer that is not scoped is among those that the run keeps track of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Tₙ (c : Dev nD) : sProp 𝕄 := iprop(StableHlo.held (c : Thread nD τ) (Pipeline.ucRefs τ sig) (W5 m ρ c) ∗ ∃ r, prngReg c r)
set_option backward.isDefEq.respectTransparency.types false in
/-- The first call as a part of the run. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The second call as a part of the run: the state it carries is forgotten at its end. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hforget : (pdats m ρ 1 c).Φ (Fin.last _) ⊢ (Pipeline.ΦA spec1 c : sProp 𝕄) := by
      rw [show (pdats m ρ 1 c).Φ (Fin.last _) = PhiS (V3 m ρ) c cfg1.N (Nat.le_refl _) from rfl]
      exact PhiS_forget (V3 m ρ) c cfg1.N (Nat.le_refl _)
    unfold Pipeline.ΦA at hforget
    iintro HΦ
    ihave HΦ := hforget $$ HΦ
    icases HΦ with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The third call as a part of the run. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The parts in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
/-- The program is the run of its parts. -/
theorem main_run (c : Dev nD) : main (F := F) c = Pipeline.Seg.run (segs m ρ) := (main_chain c).trans (by chain_rfl)

/-- Every semaphore is scoped. -/
theorem no_unscoped : ∀ sm : SemLoc sig, sm.isScoped .tc = true := by decide

set_option backward.isDefEq.respectTransparency.types false in
/-- From any memory with the counters at zero the program runs to its end; then every buffer that is not scoped holds what `W5` says, and every
    counter is at zero. -/
theorem run_all : θ_run defs (onTc (τ := τ) (main (F := F))) ⟨m, fun _ => 0, ρ⟩ (fun r =>
      (∀ c : Dev nD, ∀ b ∈ Pipeline.ucRefs τ sig, r.2.mem ((c : Thread nD τ).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨(fun c =>
      ⟨(h.1 c _ (mem_uc main_arg0 (by decide))).trans (W5_args m ρ c main_arg0 (by decide)),
       (h.1 c _ (mem_uc main_arg1 (by decide))).trans (W5_args m ρ c main_arg1 (by decide)),
       (h.1 c _ (mem_uc main_arg2 (by decide))).trans (W5_args m ρ c main_arg2 (by decide)),
       (h.1 c _ (mem_uc main_arg3 (by decide))).trans (W5_args m ρ c main_arg3 (by decide)),
       (h.1 c _ (mem_uc main_arg4 (by decide))).trans (W5_args m ρ c main_arg4 (by decide)),
       (h.1 c _ (mem_uc main_arg5 (by decide))).trans (W5_args m ρ c main_arg5 (by decide)),
       (h.1 c _ (mem_uc main_arg6 (by decide))).trans (W5_args m ρ c main_arg6 (by decide)),
       (h.1 c _ (mem_uc main_arg7 (by decide))).trans (W5_args m ρ c main_arg7 (by decide)),
       (h.1 c _ (mem_uc main_arg8 (by decide))).trans (W5_args m ρ c main_arg8 (by decide)),
       (h.1 c _ (mem_uc main_arg9 (by decide))).trans (W5_args m ρ c main_arg9 (by decide))⟩), h.2⟩)
    (run_all m ρ)

end Cert.KernelIdeal.Gen
-- ==== Proof.RefRun.lean ====
/- The reference's run: its stretches, the loop of 2048 trips, the stretches after it; what every buffer holds at the end, and every counter at
   zero. -/
module

public import proofs.«01_k».proof.Proof.Gen.ReferenceIdeal.Run

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

local notation "𝕄" => MT nD τ sig Unit (Elt F) ℕ (Option PUnit) ℕ

variable (m : (ℓ : Loc nD τ sig) → Buf (Elt F) ℓ) (ρ : Dev nD → PrngReg)

/-- There is no call, so nothing to prefetch, -/
abbrev noAdm : (p : Fin 0) → (pcfgs (F := F) p).Adm := fun p => p.elim0
/-- no ticket, -/
abbrev noTk : Fin 0 → Pipeline.Ticket (Ix := Unit) (Name := ℕ) (U := Option PUnit) (Lvl := ℕ) (nD := nD) (τ := τ) (pcfgs (F := F)) noAdm :=
  fun j => j.elim0
/-- no promise on a counter, -/
abbrev noL : GSem nD τ sig → Finset Unit := fun _ => ∅
/-- and no order among them. -/
abbrev noLv : GSem nD τ sig → Unit → ℕ := fun _ _ => 0
/-- What goes along with the buffers: the empty debt. -/
abbrev debt (c : Dev nD) : sProp 𝕄 := iprop(∃ W, owes (c : Thread nD τ) (0 : CellTallies nD τ sig Unit) W)

/-- The test of the loop, with the debt beside it. -/
theorem loopTest : LoopCond (pcfgs (F := F)) defs₀ Variants.none loops (debt (F := F)) (main_while0_cond (F := F)) condOps bodyI (entryContents preI m) 2048 := by
  intro k hk c bd
  have h := (sep_mono_left (Q := debt (F := F) c) (cond_spec m k hk c bd)).trans (wp_frame_r _ _ _ (R := debt (F := F) c))
  refine BIBase.Entails.trans ?_ (h.trans (wp_mono _ _ _ fun v => ?_))
  · iintro ⟨Hb, Hh, HO⟩
    isplitl [Hb Hh]; · isplitl [Hb] <;> iassumption
    iexact HO
  · iintro ⟨⟨%hv, Hb, Hh⟩, HO⟩
    isplitr; · ipureintro; exact hv
    isplitl [Hb]; · iexact Hb
    isplitl [Hh] <;> iassumption

/-- The parts of the program in order. -/
def parts : List (CSeg (pcfgs (F := F)) noAdm defs₀ Variants.none noL noLv loops noTk) :=
  segsOf _ _ _ _ _ _ _ _ debt preI hpre (launchContents m)
    ++ loopSeg _ _ _ _ _ _ _ _ 0 main_while0_cond main_while0_body rfl condOps bodyI hbodyI (by rw [while0_body_chain]; rfl) 2048
        (entryContents preI m) debt (loopTest m)
      :: segsOf _ _ _ _ _ _ _ _ debt postI hpost (fun c => after condOps (atTrip condOps bodyI (entryContents preI m) 2048 c))

theorem parts_prog (c : Dev nD) : (Pipeline.chain ((parts m).map CSeg.prog) : Prog _ PUnit) = main (F := F) c := by
  unfold parts
  rw [List.map_append, List.map_cons, segsOf_prog, segsOf_prog, main_chain]
  rfl

/-- They lead from what the buffers hold at the start to what they hold at the end. -/
theorem parts_chains :
    CSeg.Chains (fun c => iprop(held (c : Thread nD τ) (ucRefs τ sig) (launchContents m c) ∗ debt c)) (parts m)
      (fun c => iprop(held (c : Thread nD τ) (ucRefs τ sig) (finalContents condOps preI bodyI postI 2048 m c) ∗ debt c)) := by
  unfold parts
  exact CSeg.Chains.append (segsOf_chains _ _ _ _ _ _ _ _ debt preI hpre _) ⟨fun _ => .rfl, segsOf_chains _ _ _ _ _ _ _ _ debt postI hpost _⟩

/-- Every semaphore is scoped. -/
theorem no_unscoped : ∀ x : SemLoc sig, x.isScoped .tc = true := by decide

set_option backward.isDefEq.respectTransparency.types false in
/-- From any memory with the counters at zero the reference runs to its end; then every buffer that is not scoped holds what the stretches and the
    trips make of it, and every counter is at zero. -/
theorem run_all : θ_run (defs (F := F)) (onTc (τ := τ) (main (F := F))) ⟨m, fun _ => 0, ρ⟩ (fun r =>
      (∀ (c : Dev nD) (b : Ref sig .tc), (Proc.devRef .tc b : DevRef τ sig).isScoped = false →
        r.2.mem ((c.tc : Thread nD τ).loc b) = finalContents condOps preI bodyI postI 2048 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs noAdm (fun k => k.1.elim0) defs₀ Variants.none noL noLv loops noTk m ρ main (parts m)
    (fun c Q => by
      show wp _ _ _ (Pipeline.chain ((parts m).map CSeg.prog)) Q ⊢ _
      rw [parts_prog m c])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ debt c))
    (Tₙ := fun c => iprop(held (c : Thread nD τ) (ucRefs τ sig) (finalContents condOps preI bodyI postI 2048 m c)))
    (hch := parts_chains m)
    (hinit := by
      refine Pipeline.initEach noL noLv fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = finalContents condOps preI bodyI postI 2048 m c b)
    (hfin := fun c s' => by
      unfold held
      iintro ⟨Hh, HSI⟩
      ihave Hr := (pointsTo_read_all (ucRefs τ sig) (fun b => ((c : Dev nD), b)) (fun b => finalContents condOps preI bodyI postI 2048 m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (no_unscoped g.2))⟩)

/-- Every operation of the reference writes outside the arguments. -/
abbrev argRefs : List (Ref sig .tc) := [main_arg0, main_arg1, main_arg2, main_arg3, main_arg4, main_arg5, main_arg6, main_arg7, main_arg8, main_arg9]

/-- `ops` leave every argument as it is. -/
def KeepsArgs (ops : List (HloOp τ sig (Elt F))) : Prop := ∀ (V : Valuation τ sig (Elt F)), ∀ r ∈ argRefs, after ops V (Proc.devRef .tc r) = V (Proc.devRef .tc r)

theorem keepsArgs_of {W : List (Ref sig .tc)} {ops : List (HloOp τ sig (Elt F))}
    (hW : ops.Forall fun op => op.writes ⊆ (W.map (Proc.devRef (τ := τ) .tc)).toFinset) (h : ∀ r ∈ argRefs, r ∉ W) : KeepsArgs ops :=
  fun V r hr => after_of_writes_sub ops V hW (h r hr)

theorem keepsArgs_list : ∀ (items : List (List (HloOp τ sig (Elt F)))), (∀ ops ∈ items, KeepsArgs ops) → ∀ (V : Valuation τ sig (Elt F)), ∀ r ∈ argRefs,
    afterL items V (Proc.devRef .tc r) = V (Proc.devRef .tc r)
  | [], _, _, _, _ => rfl
  | ops :: rest, h, V, r, hr => by
    rw [afterL_cons, keepsArgs_list rest (fun o ho => h o (List.mem_cons_of_mem _ ho)) _ r hr]
    exact h ops List.mem_cons_self V r hr

/-- What the stretch after the loop numbered 7 writes. -/
abbrev hostOps0_7_W : List (Ref sig .tc) := [main_v55, main_v56, main_v57, main_v58, main_v59]
theorem hostOps0_7_writes : (hostOps0_7 : List (HloOp τ sig (Elt F))).Forall fun op => op.writes ⊆ (hostOps0_7_W.map (Proc.devRef (τ := τ) .tc)).toFinset :=
  StableHlo.forall_writes_sub_of_map rfl
/-- What the stretch after the loop numbered 8 writes. -/
abbrev hostOps0_8_W : List (Ref sig .tc) := [main_call8_v0, main_call8_v1, main_call8_cst, main_call8_v2, main_call8_v3, main_call8_cst_0, main_call8_v4, main_call8_v5, main_v60]
theorem hostOps0_8_writes : (hostOps0_8 : List (HloOp τ sig (Elt F))).Forall fun op => op.writes ⊆ (hostOps0_8_W.map (Proc.devRef (τ := τ) .tc)).toFinset :=
  StableHlo.forall_writes_sub_of_map rfl
/-- What the stretch after the loop numbered 9 writes. -/
abbrev hostOps0_9_W : List (Ref sig .tc) := [main_v61, main_v62]
theorem hostOps0_9_writes : (hostOps0_9 : List (HloOp τ sig (Elt F))).Forall fun op => op.writes ⊆ (hostOps0_9_W.map (Proc.devRef (τ := τ) .tc)).toFinset :=
  StableHlo.forall_writes_sub_of_map rfl

theorem pre_keeps : ∀ ops ∈ preI (F := F), KeepsArgs ops := by
  simp only [preI, List.forall_mem_cons, List.not_mem_nil, false_imp_iff, implies_true, and_true]
  exact ⟨keepsArgs_of hostOps0_writes (by decide), keepsArgs_of hostOps0_1_writes (by decide), keepsArgs_of hostOps0_2_writes (by decide), keepsArgs_of hostOps0_3_writes (by decide), keepsArgs_of hostOps0_4_writes (by decide), keepsArgs_of hostOps0_5_writes (by decide), keepsArgs_of hostOps0_6_writes (by decide)⟩
theorem body_keeps : ∀ ops ∈ bodyI (F := F), KeepsArgs ops := by
  simp only [bodyI, List.forall_mem_cons, List.not_mem_nil, false_imp_iff, implies_true, and_true]
  exact ⟨keepsArgs_of while0Ops0_writes (by decide), keepsArgs_of while0Ops0_1_writes (by decide), keepsArgs_of while0Ops0_2_writes (by decide), keepsArgs_of while0Ops0_3_writes (by decide), keepsArgs_of while0Ops0_4_writes (by decide), keepsArgs_of while0Ops0_5_writes (by decide), keepsArgs_of while0Ops0_6_writes (by decide)⟩
theorem post_keeps : ∀ ops ∈ postI (F := F), KeepsArgs ops := by
  simp only [postI, List.forall_mem_cons, List.not_mem_nil, false_imp_iff, implies_true, and_true]
  exact ⟨keepsArgs_of hostOps0_7_writes (by decide), keepsArgs_of hostOps0_8_writes (by decide), keepsArgs_of hostOps0_9_writes (by decide)⟩
theorem test_keeps : KeepsArgs (condOps (F := F)) := keepsArgs_of condOps_writes (by decide)

/-- Before trip `k` the arguments are as at the launch. -/
theorem trips_args (c : Dev nD) (r : Ref sig .tc) (hr : r ∈ argRefs) :
    ∀ k, atK m k c (Proc.devRef .tc r) = launchContents m c (Proc.devRef .tc r)
  | 0 => keepsArgs_list preI pre_keeps _ r hr
  | k + 1 => (keepsArgs_list bodyI body_keeps _ r hr).trans ((test_keeps _ r hr).trans (trips_args c r hr k))

/-- At the end too. -/
theorem final_args (c : Dev nD) (r : Ref sig .tc) (hr : r ∈ argRefs) :
    finalContents condOps preI bodyI postI 2048 m c (Proc.devRef .tc r) = launchContents m c (Proc.devRef .tc r) :=
  (keepsArgs_list postI post_keeps _ r hr).trans ((test_keeps _ r hr).trans (trips_args m c r hr 2048))

/-- The reference ends with its arguments unchanged, its result what the last stretch makes, and every counter at zero. -/
theorem run_result : θ_run (defs (F := F)) (onTc (τ := τ) (main (F := F))) ⟨m, fun _ => 0, ρ⟩ (fun r => (∀ c : Dev nD,
      r.2.mem ((c.tc : Thread nD τ).loc main_v62) = finalContents condOps preI bodyI postI 2048 m c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨h.1 c main_v62 rfl, (h.1 c main_arg0 rfl).trans (final_args m c main_arg0 (by decide)), (h.1 c main_arg1 rfl).trans (final_args m c main_arg1 (by decide)), (h.1 c main_arg2 rfl).trans (final_args m c main_arg2 (by decide)), (h.1 c main_arg3 rfl).trans (final_args m c main_arg3 (by decide)), (h.1 c main_arg4 rfl).trans (final_args m c main_arg4 (by decide)), (h.1 c main_arg5 rfl).trans (final_args m c main_arg5 (by decide)), (h.1 c main_arg6 rfl).trans (final_args m c main_arg6 (by decide)), (h.1 c main_arg7 rfl).trans (final_args m c main_arg7 (by decide)), (h.1 c main_arg8 rfl).trans (final_args m c main_arg8 (by decide)), (h.1 c main_arg9 rfl).trans (final_args m c main_arg9 (by decide))⟩, h.2⟩) (run_all m ρ)

end Cert.ReferenceIdeal.Value
-- ==== Proof.Frames.lean ====
/- The frames: both kernels and the reference end with their arguments unchanged and every counter at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.RefRun

@[expose] public section

set_option maxRecDepth 65536
set_option maxHeartbeats 4000000

noncomputable section

namespace Cert.Proof

open Idealize.ShloMosaic Idealize.ShloMosaic.Tactic Idealize.SL.Sem

/-- The two kernels are the same program over different element types: what the second does at bit patterns, the first does. -/
theorem same_main : @Cert.Kernel.main Bits _ Cert.Kernel.Gen.facts = @Cert.KernelIdeal.main Bits _ Cert.KernelIdeal.Gen.facts := by sl_kernel_rfl

theorem same_frame :
    @Cert.quiescent_Kernel Cert.Kernel.Gen.facts =
      (∀ (m : (ℓ : Loc Cert.KernelIdeal.nD Cert.KernelIdeal.τ Cert.KernelIdeal.sig) → Buf (Elt Bits) ℓ) (g : Dev Cert.KernelIdeal.nD → PrngReg), True →
        θ_run (Cert.KernelIdeal.defs (F := Bits)) (onTc (τ := Cert.KernelIdeal.τ) (@Cert.KernelIdeal.main Bits _ Cert.KernelIdeal.Gen.facts)) ⟨m, fun _ => 0, g⟩
          (fun r => (∀ c : Dev Cert.KernelIdeal.nD,
            r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
            ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
            ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
            ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
            ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
            ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
            ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
            ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
            ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
            ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
            ∧ r.2.sem = fun _ => 0)) := by
  sl_kernel_rfl

theorem frame_Kernel : @Cert.quiescent_Kernel Cert.Kernel.Gen.facts := by
  rw [same_frame]
  exact fun m g _ => Cert.KernelIdeal.Gen.frame m g

theorem frame_KernelIdeal : @Cert.quiescent_KernelIdeal Cert.KernelIdeal.Gen.facts := fun m g _ => Cert.KernelIdeal.Gen.frame m g

theorem frame_ReferenceIdeal : @Cert.quiescent_ReferenceIdeal Cert.ReferenceIdeal.Gen.facts := fun m g _ =>
  (θ_run Cert.ReferenceIdeal.defs _ _).mono (fun r h => ⟨fun c => (h.1 c).2, h.2⟩) (Cert.ReferenceIdeal.Value.run_result m g)

end Cert.Proof
-- ==== Proof.Maths.lean ====
/- The block's arithmetic over the extended reals, free of any program: what both the kernel and the reference are read as. -/
module

public import Idealize.ShloMosaic.PureOps.Ideal
public import Idealize.ShloMosaic.Lib.Pointwise

@[expose] public section

noncomputable section

namespace Cert.Maths

open Idealize.ShloMosaic

/-- The entry `k` places before `t`, zero before the start. -/
def back (p : Fin 2048 → EReal) (t : Fin 2048) (k : ℕ) : EReal := if h : t.val < k then 0 else p ⟨t.val - k, by omega⟩

/-- The causal convolution with four taps. -/
def conv4 (p : Fin 2048 → EReal) (w : Fin 4 → EReal) (bias : EReal) (t : Fin 2048) : EReal :=
  w 0 * back p t 3 + w 1 * back p t 2 + w 2 * back p t 1 + w 3 * p t + bias

/-- `v` times its logistic. -/
def silu (v : EReal) : EReal := v * Ideal.logistic v

/-- The logarithm of `1 + exp v`, as it is computed. -/
def softplus (v : EReal) : EReal := max v 0 + Ideal.log1p (Ideal.exp (0 - FloatOps.absf (F := Ideal) (φ := .f32) v))

/-- The recursion `h := h * a + u`, `k` steps from `h`. -/
def steps (a u : ℕ → EReal) (h : EReal) : ℕ → EReal
  | 0 => h
  | k + 1 => steps a u h k * a k + u k

/-- Steps taken after steps. -/
theorem steps_add (a u : ℕ → EReal) (h : EReal) (i : ℕ) :
    ∀ k, steps (fun s => a (i + s)) (fun s => u (i + s)) (steps a u h i) k = steps a u h (i + k)
  | 0 => rfl
  | k + 1 => by
    show steps _ _ _ k * a (i + k) + u (i + k) = steps a u h (i + k) * a (i + k) + u (i + k)
    rw [steps_add a u h i k]

/-- Steps agree when their factors and terms do. -/
theorem steps_congr {a a' u u' : ℕ → EReal} {h h' : EReal} (hh : h = h') :
    ∀ k, (∀ s, s < k → a s = a' s) → (∀ s, s < k → u s = u' s) → steps a u h k = steps a' u' h' k
  | 0, _, _ => hh
  | k + 1, ha, hu => by
    show steps a u h k * a k + u k = steps a' u' h' k * a' k + u' k
    rw [steps_congr hh k (fun s hs => ha s (by omega)) (fun s hs => hu s (by omega)), ha k (by omega), hu k (by omega)]

/-- `e` to the power `n + 1`, multiplied up. -/
def power (e : EReal) : ℕ → EReal
  | 0 => e
  | n + 1 => power e n * e

/-- The exponential turns a multiple into a power. -/
theorem power_exp (d : EReal) : ∀ n : ℕ, power (Ideal.exp (-d)) n = Ideal.exp (d * -((n + 1 : ℝ) : EReal)) := by
  intro n
  induction n with
  | zero =>
    show Ideal.exp (-d) = _
    congr 1
    simp
  | succ n ih =>
    show power (Ideal.exp (-d)) n * Ideal.exp (-d) = _
    rw [ih]
    have hp : (0 : ℝ) < (n : ℝ) + 1 := by positivity
    have hq : (0 : ℝ) < ((n + 1 : ℕ) : ℝ) + 1 := by positivity
    induction d with
    | bot =>
      rw [← EReal.coe_neg, ← EReal.coe_neg, EReal.bot_mul_coe_of_neg (by linarith), EReal.bot_mul_coe_of_neg (by linarith)]
      simp
    | top =>
      rw [← EReal.coe_neg, ← EReal.coe_neg, EReal.top_mul_coe_of_neg (by linarith), EReal.top_mul_coe_of_neg (by linarith)]
      simp
    | coe d =>
      rw [← EReal.coe_neg, ← EReal.coe_neg, ← EReal.coe_neg, ← EReal.coe_mul, ← EReal.coe_mul, Ideal.exp_coe, Ideal.exp_coe, Ideal.exp_coe, ← EReal.coe_mul, ← Real.exp_add]
      congr 2
      push_cast
      ring

/-- Sixteen terms added in pairs, as a sum. -/
theorem sum_pairs (f : ℕ → EReal) :
    f 0 + f 8 + (f 4 + f 12) + (f 2 + f 10 + (f 6 + f 14)) + (f 1 + f 9 + (f 5 + f 13) + (f 3 + f 11 + (f 7 + f 15))) = ∑ n : Fin 16, f n.val := by
  rw [Fin.sum_univ_eq_sum_range (fun n => f n) 16]
  simp only [Finset.sum_range_succ, Finset.sum_range_zero, zero_add]
  ac_rfl

/-- A sum against the indicator of one index. -/
theorem sum_indicator (f : Fin 16 → EReal) (n : Fin 16) : ∑ k : Fin 16, f k * (if n.val = k.val then (1 : EReal) else 0) = f n := by
  rw [Finset.sum_eq_single n]
  · simp
  · intro k _ hk
    rw [if_neg (fun h => hk (Fin.ext h.symm)), mul_zero]
  · simp

/-- The exponential undoes the logarithm of a positive number. -/
theorem exp_log (r : ℝ) (h : 0 < r) : Ideal.exp (Ideal.log (r : EReal)) = (r : EReal) := by
  rw [Ideal.log_coe, if_neg (not_le.mpr h), Ideal.exp_coe, Real.exp_log h]

/-! ## The block -/

section

variable (X : Fin 4 → Fin 2048 → Fin 1024 → EReal) (Win : Fin 4096 → Fin 1024 → EReal) (cw : Fin 2048 → Fin 4 → EReal) (cb : Fin 2048 → EReal)

/-- The in-projection. -/
def proj (b : Fin 4) (e : Fin 4096) (t : Fin 2048) : EReal := ∑ k : Fin 1024, X b t k * Win e k

/-- The convolved stream. -/
def stream (b : Fin 4) (t d : Fin 2048) : EReal := silu (conv4 (proj X Win b ⟨d.val, by omega⟩) (cw d) (cb d) t)

/-- The gate. -/
def gate (b : Fin 4) (t d : Fin 2048) : EReal := proj X Win b ⟨2048 + d.val, by omega⟩ t

end

section

variable (xs z : Fin 4 → Fin 2048 → Fin 2048 → EReal) (wx : Fin 2080 → Fin 2048 → EReal) (wdt : Fin 2048 → Fin 16 → EReal) (bdt dv : Fin 2048 → EReal)

/-- The projection of the stream that the scan's parameters are slices of. -/
def xproj (b : Fin 4) (t : Fin 2048) (e : Fin 2080) : EReal := ∑ k : Fin 2048, xs b t k * wx e k

/-- The step size. -/
def delta (b : Fin 4) (t d : Fin 2048) : EReal := softplus (∑ n : Fin 16, xproj xs wx b t ⟨n.val, by omega⟩ * wdt d n + bdt d)

/-- Row `s` of a sequence, counted round. -/
abbrev seqRow (s : ℕ) : Fin 2048 := ⟨s % 2048, Nat.mod_lt _ (by decide)⟩

/-- The decay factor of state `n` of channel `d` at row `s`. -/
def decay (b : Fin 4) (d : Fin 2048) (n : Fin 16) (s : ℕ) : EReal := power (Ideal.exp (-(delta xs wx wdt bdt b (seqRow s) d))) n.val

/-- The input term of state `n` of channel `d` at row `s`. -/
def input (b : Fin 4) (d : Fin 2048) (n : Fin 16) (s : ℕ) : EReal :=
  delta xs wx wdt bdt b (seqRow s) d * xs b (seqRow s) d * xproj xs wx b (seqRow s) ⟨16 + n.val, by omega⟩

/-- The state after `k` rows. -/
def state (b : Fin 4) (d : Fin 2048) (n : Fin 16) (k : ℕ) : EReal := steps (decay xs wx wdt bdt b d n) (input xs wx wdt bdt b d n) 0 k

/-- The gated output of the scan. -/
def gated (b : Fin 4) (t d : Fin 2048) : EReal :=
  ((∑ n : Fin 16, state xs wx wdt bdt b d n (t.val + 1)) * xproj xs wx b t ⟨32 + d.val, by omega⟩ + xs b t d * dv d) * silu (z b t d)

/-- The whole block. -/
def block (X : Fin 4 → Fin 2048 → Fin 1024 → EReal) (Win : Fin 4096 → Fin 1024 → EReal) (cw : Fin 2048 → Fin 4 → EReal) (cb : Fin 2048 → EReal)
    (wx : Fin 2080 → Fin 2048 → EReal) (wdt : Fin 2048 → Fin 16 → EReal) (bdt dv : Fin 2048 → EReal) (wo : Fin 1024 → Fin 2048 → EReal)
    (b : Fin 4) (t : Fin 2048) (e : Fin 1024) : EReal :=
  ∑ d : Fin 2048, gated (stream X Win cw cb) (gate X Win) wx wdt bdt dv b t d * wo e d

end

end Cert.Maths
-- ==== Proof.PayVals.lean ====
/- What the kernels' bodies compute over the extended reals, read at an index. -/
module

public import proofs.«01_k».proof.Proof.ScanVals
public import proofs.«01_k».proof.Proof.Maths

@[expose] public section

set_option maxRecDepth 65536

noncomputable section

namespace Cert.KernelIdeal.Gen

open Idealize.ShloMosaic Cert.Maths

/-! ## The in-projection and the out-projection -/

theorem gate_at (x : Vec Ideal S1x2048x1024 .f32) (w : Vec Ideal S512x1024 .f32) (t : Fin 2048) (e : Fin 512) :
    k0_pay3 x w (ix3 0 t e) = ∑ k : Fin 1024, x (ix3 0 t k) * w (ix2 e k) := by
  pointwise [k0_pay3, k0_pay1]

theorem conv_at (x : Vec Ideal S1x2048x1024 .f32) (w : Vec Ideal S512x1024 .f32) (cw : Vec Ideal S4x512 .f32) (cb : Vec Ideal S1x512 .f32) (t : Fin 2048) (e : Fin 512) :
    k0_pay2 x w cw cb (ix3 0 t e)
      = silu (conv4 (fun t => ∑ k : Fin 1024, x (ix3 0 t k) * w (ix2 e k)) (fun k => cw (ix2 k e)) (cb (ix2 0 e)) t) := by
  have hp : ∀ t : Fin 2048, k0_pay1 x w (ix2 t e) = ∑ k : Fin 1024, x (ix3 0 t k) * w (ix2 e k) := fun t => by pointwise [k0_pay1]
  simp only [← hp]
  unfold k0_pay2
  generalize k0_pay1 x w = p
  pointwise
  have h3 : (if h : t.val < 3 then (0 : EReal) else p (ix2 ⟨t.val - 3, by omega⟩ e)) = back (fun t => p (ix2 t e)) t 3 := rfl
  have h2 : (if h : 1 + t.val < 3 then (0 : EReal) else p (ix2 ⟨1 + t.val - 3, by omega⟩ e)) = back (fun t => p (ix2 t e)) t 2 := by
    unfold back
    split_ifs with h h' h' <;> first | omega | rfl | (congr 2; apply Fin.ext; show 1 + t.val - 3 = t.val - 2; omega)
  have h1 : (if h : 2 + t.val < 3 then (0 : EReal) else p (ix2 ⟨2 + t.val - 3, by omega⟩ e)) = back (fun t => p (ix2 t e)) t 1 := by
    unfold back
    split_ifs with h h' h' <;> first | omega | rfl | (congr 2; apply Fin.ext; show 2 + t.val - 3 = t.val - 1; omega)
  rw [h3, h2, h1]
  rfl

theorem out_at (x : Vec Ideal S1x512x2048 .f32) (w : Vec Ideal S1024x2048 .f32) (t : Fin 512) (e : Fin 1024) :
    k2_pay1 x w (ix3 0 t e) = ∑ k : Fin 2048, x (ix3 0 t k) * w (ix2 e k) := by
  pointwise [k2_pay1]

/-! ## The scan's projections -/

theorem x_at (x : Vec Ideal S1x128x2048 .f32) (t : Fin 128) (e : Fin 2048) : k1_pay3 x (ix2 t e) = x (ix3 0 t e) := by
  pointwise [k1_pay3]

theorem xproj_at (x : Vec Ideal S1x128x2048 .f32) (w : Vec Ideal S32x2048 .f32) (t : Fin 128) (e : Fin 32) :
    k1_pay4 x w (ix2 t e) = ∑ k : Fin 2048, x (ix3 0 t k) * w (ix2 e k) := by
  pointwise [k1_pay4, k1_pay3]

theorem cproj_at (x : Vec Ideal S1x128x2048 .f32) (w : Vec Ideal S2048x2048 .f32) (t : Fin 128) (e : Fin 2048) :
    k1_pay5 x w (ix2 t e) = ∑ k : Fin 2048, x (ix3 0 t k) * w (ix2 e k) := by
  pointwise [k1_pay5, k1_pay3]

theorem dt_at (x : Vec Ideal S1x128x2048 .f32) (w : Vec Ideal S32x2048 .f32) (wd : Vec Ideal S16x2048 .f32) (b : Vec Ideal S1x2048 .f32) (t : Fin 128) (e : Fin 2048) :
    scanDt x w wd b (ix2 t e)
      = softplus (∑ n : Fin 16, (∑ k : Fin 2048, x (ix3 0 t k) * w (ix2 ⟨n.val, by omega⟩ k)) * wd (ix2 n e) + b (ix2 0 e)) := by
  unfold scanDt k1_pay6
  generalize hp : k1_pay4 x w = p
  pointwise [k1_pay7]
  rw [if_neg (fun h => h rfl)]
  subst hp
  simp only [xproj_at]
  rfl

theorem b_at (x : Vec Ideal S1x128x2048 .f32) (w : Vec Ideal S32x2048 .f32) (sp : Vec Ideal S16x2048 .f32) (t : Fin 128) (e : Fin 2048) :
    scanB x w sp (ix2 t e) = ∑ n : Fin 16, (∑ k : Fin 2048, x (ix3 0 t k) * w (ix2 ⟨16 + n.val, by omega⟩ k)) * sp (ix2 n e) := by
  unfold scanB
  generalize hp : k1_pay4 x w = p
  pointwise [k1_pay8]
  subst hp
  simp only [xproj_at]

/-! ## The scan's steps -/

theorem step_at (h : Vec Ideal S16x2048 .f32) (a u : Vec Ideal S1x16x2048 .f32) (r : Fin 16) (l : Fin 2048) :
    k1_pay13 h a u (ix2 r l) = h (ix2 r l) * a (ix3 0 r l) + u (ix3 0 r l) := by
  pointwise [k1_pay13, k1_pay12]

/-- Lane `q` of state `n`. -/
abbrev lane (n : ℕ) (q : Fin 128) : Fin 2048 := ⟨(n * 128 + q.val) % 2048, Nat.mod_lt _ (by decide)⟩

/-- A step's state sums are sums over the sixteen states. -/
theorem sum_at (h : Vec Ideal S16x2048 .f32) (a u : Vec Ideal S1x16x2048 .f32) (r : Fin 16) (q : Fin 128) :
    k1_pay14 h a u (ix3 0 r q) = ∑ n : Fin 16, k1_pay13 h a u (ix2 r (lane n.val q)) := by
  rw [show k1_pay13 h a u = k1_pay12 h a u from shapeCast_self _ _]
  unfold k1_pay14
  generalize k1_pay12 h a u = p
  obtain ⟨f, hf⟩ : ∃ f : ℕ → EReal, ∀ n, f n = p (ix2 r (lane n q)) := ⟨_, fun _ => rfl⟩
  have hp : ∀ (k n : ℕ) (hk : k < 2048), k = n * 128 + q.val → p (ix2 r ⟨k, hk⟩) = f n := fun k n hk e => by
    rw [hf]; congr 2; apply Fin.ext; show k = (n * 128 + q.val) % 2048; omega
  simp only [← hf]
  rw [← sum_pairs]
  pointwise
  repeat' first | exact hp _ _ _ (by omega) | refine congrArg₂ (· + ·) ?_ ?_

/-- `e` to the power `n + 1`, built by multiplying once more each time. -/
def powV (e : FVec Ideal S16x16x128 .f32) : ℕ → FVec Ideal S16x16x128 .f32
  | 0 => e
  | n + 1 => mulf (powV e n) e

theorem powV_at (e : FVec Ideal S16x16x128 .f32) (y : S16x16x128.Idx) : ∀ n, powV e n y = power (e y) n
  | 0 => rfl
  | n + 1 => by
    show powV e n y * e y = _
    rw [powV_at e y n]; rfl

/-- Sixteen slabs of 128 lanes side by side, read at a lane. -/
theorem lanes_at (f : Fin 16 → FVec Ideal S16x16x128 .f32)
    (h : Shape.Concatenates ((List.ofFn fun n : Fin 16 => (⟨S16x16x128, f n⟩ : (s : Shape) × (s.Idx → EReal))).map (·.1)) S16x16x2048 2)
    (s r : Fin 16) (l : Fin 2048) :
    concatenate S16x16x2048 2 (List.ofFn fun n : Fin 16 => (⟨S16x16x128, f n⟩ : (s : Shape) × (s.Idx → EReal))) h (ix3 s r l)
      = f ⟨l.val / 128, by omega⟩ (ix3 s r ⟨l.val % 128, Nat.mod_lt _ (by decide)⟩) := by
  refine concatenate_ofFn_apply 2 f h rfl 128 rfl _ ⟨l.val / 128, by omega⟩ rfl _ rfl fun b hb => ?_
  match b with
  | ⟨0, _⟩ => rfl
  | ⟨1, _⟩ => rfl
  | ⟨2, _⟩ => exact absurd rfl hb

theorem a_at (d : Vec Ideal S16x2048 .f32) (s r : Fin 16) (l : Fin 2048) :
    k1_pay9 d (ix3 s r l) = power (Ideal.exp (0 - d (ix2 s ⟨r.val * 128 + l.val % 128, by omega⟩))) (l.val / 128) := by
  refine (congrFun (shapeCast_self _ _) _).trans ((lanes_at (fun n => powV (exp (subf (broadcast S16x16x128 (Scalar.ofBits .f32 0x00000000#32))
    (shapeCast S16x16x128 d shapeCasts_S16x2048_S16x16x128))) n.val) concatenates_S16x16x128_S16x16x128_S16x16x128_S16x16x128_S16x16x128_S16x16x128_S16x16x128_S16x16x128_S16x16x128_S16x16x128_S16x16x128_S16x16x128_S16x16x128_S16x16x128_S16x16x128_S16x16x128_S16x16x2048_d2 s r l).trans ((powV_at _ _ _).trans ?_))
  pointwise

theorem u_at (x d b : Vec Ideal S16x2048 .f32) (s r : Fin 16) (l : Fin 2048) :
    scanU x d b (ix3 s r l) = d (ix2 s ⟨r.val * 128 + l.val % 128, by omega⟩) * x (ix2 s ⟨r.val * 128 + l.val % 128, by omega⟩) * b (ix2 s l) := by
  unfold scanU
  refine (congrFun (shapeCast_self _ _) _).trans ?_
  refine (congrArg₂ (· * ·) (lanes_at (fun _ => shapeCast S16x16x128 (mulf (d : FVec Ideal S16x2048 .f32) x) shapeCasts_S16x2048_S16x16x128) concatenates_S16x16x128_S16x16x128_S16x16x128_S16x16x128_S16x16x128_S16x16x128_S16x16x128_S16x16x128_S16x16x128_S16x16x128_S16x16x128_S16x16x128_S16x16x128_S16x16x128_S16x16x128_S16x16x128_S16x16x2048_d2 s r l) rfl).trans ?_
  pointwise

/-- The channel whose state `(r, l)` is a component of. -/
abbrev chan (r : Fin 16) (l : Fin 2048) : Fin 2048 := ⟨r.val * 128 + l.val % 128, by omega⟩

/-- Row `s` of a 128-row block, counted round. -/
abbrev row (s : ℕ) : Fin 128 := ⟨s % 128, Nat.mod_lt _ (by decide)⟩

/-- Row `s`'s decay factor of the state at `(r, l)`. -/
def decayAt (dt : Vec Ideal S128x2048 .f32) (r : Fin 16) (l : Fin 2048) (s : ℕ) : EReal := power (Ideal.exp (0 - dt (ix2 (row s) (chan r l)))) (l.val / 128)

/-- Row `s`'s input term of the state at `(r, l)`. -/
def inputAt (x dt b : Vec Ideal S128x2048 .f32) (r : Fin 16) (l : Fin 2048) (s : ℕ) : EReal :=
  dt (ix2 (row s) (chan r l)) * x (ix2 (row s) (chan r l)) * b (ix2 (row s) l)

theorem grpA_at (dt : Vec Ideal S128x2048 .f32) (j k : ℕ) (hk : k < 16) (r : Fin 16) (l : Fin 2048) :
    slab (grpA dt j) k (ix3 0 r l) = decayAt dt r l (16 * j + k) := by
  refine (a_at (rows16 dt j) ⟨k % 16, Nat.mod_lt _ (by decide)⟩ r l).trans ?_
  have e : rows16 dt j (ix2 ⟨k % 16, Nat.mod_lt _ (by decide)⟩ (chan r l)) = dt (ix2 (row (16 * j + k)) (chan r l)) :=
    congrArg (fun s => dt (ix2 s (chan r l))) (Fin.ext (by show (16 * j + k % 16) % 128 = (16 * j + k) % 128; rw [Nat.mod_eq_of_lt hk]))
  rw [e]; rfl

theorem grpU_at (x dt b : Vec Ideal S128x2048 .f32) (j k : ℕ) (hk : k < 16) (r : Fin 16) (l : Fin 2048) :
    slab (grpU x dt b j) k (ix3 0 r l) = inputAt x dt b r l (16 * j + k) := by
  refine (u_at (rows16 x j) (rows16 dt j) (rows16 b j) ⟨k % 16, Nat.mod_lt _ (by decide)⟩ r l).trans ?_
  have e : ∀ (w : Vec Ideal S128x2048 .f32) (d : Fin 2048), rows16 w j (ix2 ⟨k % 16, Nat.mod_lt _ (by decide)⟩ d) = w (ix2 (row (16 * j + k)) d) := fun w d =>
    congrArg (fun s => w (ix2 s d)) (Fin.ext (by show (16 * j + k % 16) % 128 = (16 * j + k) % 128; rw [Nat.mod_eq_of_lt hk]))
  rw [e, e, e]; rfl

/-- Inside a group. -/
theorem scanH_at (x dt b : Vec Ideal S128x2048 .f32) (j : ℕ) (H : Vec Ideal S16x2048 .f32) (r : Fin 16) (l : Fin 2048) : ∀ k ≤ 16,
    scanH (grpA dt j) (grpU x dt b j) H k (ix2 r l)
      = steps (fun s => decayAt dt r l (16 * j + s)) (fun s => inputAt x dt b r l (16 * j + s)) (H (ix2 r l)) k
  | 0, _ => rfl
  | k + 1, hk => by
    refine (step_at (scanH (grpA dt j) (grpU x dt b j) H k) (slab (grpA dt j) k) (slab (grpU x dt b j) k) r l).trans ?_
    rw [scanH_at x dt b j H r l k (by omega), grpA_at dt j k (by omega), grpU_at x dt b j k (by omega)]
    rfl

/-- Across the groups. -/
theorem grpH_at (x dt b : Vec Ideal S128x2048 .f32) (h : Vec Ideal S16x2048 .f32) (r : Fin 16) (l : Fin 2048) : ∀ j,
    grpH x dt b h j (ix2 r l) = steps (decayAt dt r l) (inputAt x dt b r l) (h (ix2 r l)) (16 * j)
  | 0 => rfl
  | j + 1 => by
    refine (scanH_at x dt b j (grpH x dt b h j) r l 16 (le_refl _)).trans ?_
    rw [grpH_at x dt b h r l j, steps_add, Nat.mul_succ]

/-- The state sums of row `t`. -/
theorem scanYs_at (x dt b : Vec Ideal S128x2048 .f32) (h : Vec Ideal S16x2048 .f32) (t : Fin 128) (r : Fin 16) (q : Fin 128) :
    scanYs x dt b h (ix3 t r q)
      = ∑ n : Fin 16, steps (decayAt dt r (lane n.val q)) (inputAt x dt b r (lane n.val q)) (h (ix2 r (lane n.val q))) (t.val + 1) := by
  refine (sum_at _ _ _ r q).trans (Finset.sum_congr rfl fun n _ => ?_)
  refine (scanH_at x dt b (t.val / 16) (grpH x dt b h (t.val / 16)) r (lane n.val q) (t.val % 16 + 1) (by omega)).trans ?_
  rw [grpH_at, steps_add]
  congr 1
  omega

/-- The state the block leaves. -/
theorem scanEnd_at (x0 : Vec Ideal S1x128x2048 .f32) (x2 : Vec Ideal S32x2048 .f32) (x4 : Vec Ideal S16x2048 .f32) (x5 : Vec Ideal S1x2048 .f32)
    (x6 h : Vec Ideal S16x2048 .f32) (r : Fin 16) (l : Fin 2048) :
    scanEnd x0 x2 x4 x5 x6 h (ix2 r l)
      = steps (decayAt (scanDt x0 x2 x4 x5) r l) (inputAt (k1_pay3 x0) (scanDt x0 x2 x4 x5) (scanB x0 x2 x6) r l) (h (ix2 r l)) 128 :=
  grpH_at _ _ _ _ r l 8

/-- The block's output. -/
theorem scanOut_at (x0 x1 : Vec Ideal S1x128x2048 .f32) (x2 : Vec Ideal S32x2048 .f32) (x3 : Vec Ideal S2048x2048 .f32) (x4 : Vec Ideal S16x2048 .f32)
    (x5 : Vec Ideal S1x2048 .f32) (x6 : Vec Ideal S16x2048 .f32) (x7 : Vec Ideal S1x2048 .f32) (h : Vec Ideal S16x2048 .f32) (t : Fin 128) (d : Fin 2048) :
    scanOut x0 x1 x2 x3 x4 x5 x6 x7 h (ix3 0 t d)
      = ((∑ n : Fin 16, steps (decayAt (scanDt x0 x2 x4 x5) ⟨d.val / 128, by omega⟩ (lane n.val ⟨d.val % 128, Nat.mod_lt _ (by decide)⟩))
            (inputAt (k1_pay3 x0) (scanDt x0 x2 x4 x5) (scanB x0 x2 x6) ⟨d.val / 128, by omega⟩ (lane n.val ⟨d.val % 128, Nat.mod_lt _ (by decide)⟩))
            (h (ix2 ⟨d.val / 128, by omega⟩ (lane n.val ⟨d.val % 128, Nat.mod_lt _ (by decide)⟩))) (t.val + 1))
          * (∑ k : Fin 2048, x0 (ix3 0 t k) * x3 (ix2 d k)) + x0 (ix3 0 t d) * x7 (ix2 0 d)) * silu (x1 (ix3 0 t d)) := by
  rw [← scanYs_at, ← cproj_at, ← x_at x0 t d]
  unfold scanOut
  generalize scanYs (k1_pay3 x0) (scanDt x0 x2 x4 x5) (scanB x0 x2 x6) h = ys
  generalize k1_pay5 x0 x3 = c
  generalize k1_pay3 x0 = x
  pointwise [k1_pay1, k1_pay81]
  rfl

end Cert.KernelIdeal.Gen
-- ==== Proof.CallVals.lean ====
/- The array each of the three calls leaves, over the extended reals, entry by entry. -/
module

public import proofs.«01_k».proof.Proof.Region0
public import proofs.«01_k».proof.Proof.Region2
public import proofs.«01_k».proof.Proof.PayVals
public import Idealize.ShloMosaic.Lib.Pipeline.ValueKit

@[expose] public section

set_option maxRecDepth 65536

noncomputable section

namespace Cert.KernelIdeal.Gen

open Idealize.ShloMosaic Idealize.ShloMosaic.TcCoe Cert.Maths
open Idealize.ShloMosaic.Pipeline (Dat)

variable (V : (c : Dev nD) → (b : Ref sig .tc) → Buf (Elt Ideal) ((c : Thread nD τ).loc b)) (c : Dev nD)

/-! ## The first call -/

theorem index0_0 : ∀ t : Fin cfg0.N, win0_0.index t = ![t.val / 8, 0, 0] := (by decide +kernel : ∀ t : Fin grid0.N, win0_0.index t = ![t.val / 8, 0, 0])
theorem index0_1 : ∀ t : Fin cfg0.N, win0_1.index t = ![t.val % 8, 0] := (by decide +kernel : ∀ t : Fin grid0.N, win0_1.index t = ![t.val % 8, 0])
theorem index0_2 : ∀ t : Fin cfg0.N, win0_2.index t = ![0, min (t.val % 8) 3] := (by decide +kernel : ∀ t : Fin grid0.N, win0_2.index t = ![0, min (t.val % 8) 3])
theorem index0_3 : ∀ t : Fin cfg0.N, win0_3.index t = ![0, min (t.val % 8) 3] := (by decide +kernel : ∀ t : Fin grid0.N, win0_3.index t = ![0, min (t.val % 8) 3])
theorem index0_4 : ∀ t : Fin cfg0.N, win0_4.index t = ![t.val / 8, 0, t.val % 8] := (by decide +kernel : ∀ t : Fin grid0.N, win0_4.index t = ![t.val / 8, 0, t.val % 8])

theorem point0 (t : Fin cfg0.N) : t.val / 8 < 4 := by have := lt_of_lt_of_eq t.isLt N_0; omega

/-- The stream in the first 2048 columns, the gate in the rest. -/
def inProj (X : Fin 4 → Fin 2048 → Fin 1024 → EReal) (Win : Fin 4096 → Fin 1024 → EReal) (cw : Fin 2048 → Fin 4 → EReal) (cb : Fin 2048 → EReal)
    (i : S4x2048x4096.Idx) : EReal :=
  if h : (i 2).val < 2048 then stream X Win cw cb (i 0) (i 1) ⟨(i 2).val, h⟩ else proj X Win (i 0) (i 2) (i 1)

section

variable {X : Fin 4 → Fin 2048 → Fin 1024 → EReal} {Win : Fin 4096 → Fin 1024 → EReal} {cw : Fin 2048 → Fin 4 → EReal} {cb : Fin 2048 → EReal}

theorem inProj_stream (b : Fin 4) (t d : Fin 2048) : inProj X Win cw cb (ix3 b t (⟨d.val, by omega⟩ : Fin 4096)) = stream X Win cw cb b t d :=
  dif_pos d.isLt

theorem inProj_right (b : Fin 4) (t : Fin 2048) (e : Fin 4096) (h : ¬ e.val < 2048) : inProj X Win cw cb (ix3 b t e) = proj X Win b e t :=
  dif_neg h

theorem inProj_gate (b : Fin 4) (t d : Fin 2048) : inProj X Win cw cb (ix3 b t (⟨2048 + d.val, by omega⟩ : Fin 4096)) = gate X Win b t d :=
  dif_neg (Nat.not_lt.mpr (Nat.le_add_right 2048 d.val))

/-- A point's blocks. -/
abbrev xBlk (t : Fin cfg0.N) : Vec Ideal S1x2048x1024 .f32 := iblk0 V c 0 t
abbrev wBlk (t : Fin cfg0.N) : Vec Ideal S512x1024 .f32 := iblk0 V c 1 t
abbrev cwBlk (t : Fin cfg0.N) : Vec Ideal S4x512 .f32 := iblk0 V c 2 t
abbrev cbBlk (t : Fin cfg0.N) : Vec Ideal S1x512 .f32 := iblk0 V c 3 t

/-- The column of the array that is column `e` of a point's block. -/
abbrev col (t : Fin cfg0.N) (e : Fin 512) : Fin 4096 := ⟨t.val % 8 * 512 + e.val, by omega⟩

theorem x_blk (hX : ∀ b t k, V c (Pipeline.arrRef spec0 0) (ix3 b t k) = X b t k) (t : Fin cfg0.N) (r : Fin 2048) (k : Fin 1024) :
    xBlk V c t (ix3 0 r k) = X ⟨t.val / 8, point0 t⟩ r k := by
  refine Eq.trans ?_ (hX _ _ _); blk_ext [iblk0, index0_0 t]
theorem w_blk (hW : ∀ e k, V c (Pipeline.arrRef spec0 1) (ix2 e k) = Win e k) (t : Fin cfg0.N) (e : Fin 512) (k : Fin 1024) :
    wBlk V c t (ix2 e k) = Win (col t e) k := by
  refine Eq.trans ?_ (hW _ _); blk_ext [iblk0, index0_1 t]
theorem cw_blk (hcw : ∀ d k, V c (Pipeline.arrRef spec0 2) (ix2 k d) = cw d k) (t : Fin cfg0.N) (h3 : t.val % 8 ≤ 3) (e : Fin 512) (k : Fin 4) :
    cwBlk V c t (ix2 k e) = cw ⟨t.val % 8 * 512 + e.val, by omega⟩ k := by
  refine Eq.trans ?_ (hcw _ _)
  have hi := index0_2 t
  rw [min_eq_left h3] at hi
  blk_ext [iblk0, hi]
theorem cb_blk (hcb : ∀ d, V c (Pipeline.arrRef spec0 3) (ix2 0 d) = cb d) (t : Fin cfg0.N) (h3 : t.val % 8 ≤ 3) (e : Fin 512) :
    cbBlk V c t (ix2 0 e) = cb ⟨t.val % 8 * 512 + e.val, by omega⟩ := by
  refine Eq.trans ?_ (hcb _)
  have hi := index0_3 t
  rw [min_eq_left h3] at hi
  blk_ext [iblk0, hi]

/-- A block's projection. -/
theorem proj_blk (hX : ∀ b t k, V c (Pipeline.arrRef spec0 0) (ix3 b t k) = X b t k) (hW : ∀ e k, V c (Pipeline.arrRef spec0 1) (ix2 e k) = Win e k)
    (t : Fin cfg0.N) (e : Fin 512) (r : Fin 2048) :
    ∑ k : Fin 1024, xBlk V c t (ix3 0 r k) * wBlk V c t (ix2 e k) = proj X Win ⟨t.val / 8, point0 t⟩ (col t e) r :=
  Finset.sum_congr rfl fun k _ => congrArg₂ (· * ·) (x_blk V c hX t r k) (w_blk V c hW t e k)

/-- A convolved block. -/
theorem conv_blk (hX : ∀ b t k, V c (Pipeline.arrRef spec0 0) (ix3 b t k) = X b t k) (hW : ∀ e k, V c (Pipeline.arrRef spec0 1) (ix2 e k) = Win e k)
    (hcw : ∀ d k, V c (Pipeline.arrRef spec0 2) (ix2 k d) = cw d k) (hcb : ∀ d, V c (Pipeline.arrRef spec0 3) (ix2 0 d) = cb d)
    (t : Fin cfg0.N) (h3 : t.val % 8 ≤ 3) (r : Fin 2048) (e : Fin 512) :
    k0_pay2 (xBlk V c t) (wBlk V c t) (cwBlk V c t) (cbBlk V c t) (ix3 0 r e)
      = stream X Win cw cb ⟨t.val / 8, point0 t⟩ r ⟨t.val % 8 * 512 + e.val, by omega⟩ := by
  refine (conv_at (xBlk V c t) (wBlk V c t) (cwBlk V c t) (cbBlk V c t) r e).trans (congrArg silu ?_)
  rw [funext (proj_blk V c hX hW t e), funext (cw_blk V c hcw t h3 e), cb_blk V c hcb t h3 e]

theorem arr0 (hX : ∀ b t k, V c (Pipeline.arrRef spec0 0) (ix3 b t k) = X b t k) (hW : ∀ e k, V c (Pipeline.arrRef spec0 1) (ix2 e k) = Win e k)
    (hcw : ∀ d k, V c (Pipeline.arrRef spec0 2) (ix2 k d) = cw d k) (hcb : ∀ d, V c (Pipeline.arrRef spec0 3) (ix2 0 d) = cb d) :
    (dat0 V c).arrAt 4 cfg0.N = inProj X Win cw cb := by
  refine (dat0 V c).arrAt_eq_of_covers 4 _ (by decide +kernel) fun t hf j => ?_
  blk_simp
  rw [after0_4]
  obtain ⟨r, e, rfl⟩ : ∃ (r : Fin 2048) (e : Fin 512), j = ix3 (0 : Fin 1) r e := ⟨j 1, j 2, by blk_ext⟩
  have he : (win0_4.blk t).view.emb (ix3 (0 : Fin 1) r e) = (ix3 (⟨t.val / 8, point0 t⟩ : Fin 4) r (col t e) : S4x2048x4096.Idx) := by
    blk_ext [index0_4 t]
  rw [he]
  unfold convAt
  split_ifs with h3
  · exact (conv_blk V c hX hW hcw hcb t h3 r e).trans (inProj_stream ⟨t.val / 8, point0 t⟩ r ⟨t.val % 8 * 512 + e.val, by omega⟩).symm
  · refine (gate_at (xBlk V c t) (wBlk V c t) r e).trans ((proj_blk V c hX hW t e r).trans ?_)
    exact (inProj_right _ _ _ (by show ¬ t.val % 8 * 512 + e.val < 2048; omega)).symm

end

/-! ## The third call -/

theorem index2_0 : ∀ t : Fin cfg2.N, win2_0.index t = ![t.val / 4, t.val % 4, 0] := (by decide +kernel : ∀ t : Fin grid2.N, win2_0.index t = ![t.val / 4, t.val % 4, 0])
theorem index2_1 : ∀ t : Fin cfg2.N, win2_1.index t = ![0, 0] := (by decide +kernel : ∀ t : Fin grid2.N, win2_1.index t = ![0, 0])
theorem index2_2 : ∀ t : Fin cfg2.N, win2_2.index t = ![t.val / 4, t.val % 4, 0] := (by decide +kernel : ∀ t : Fin grid2.N, win2_2.index t = ![t.val / 4, t.val % 4, 0])

theorem ht0 (t : Fin cfg2.N) : t.val / 4 < 4 := by have := lt_of_lt_of_eq t.isLt N_2; omega

/-- The out-projection of an array. -/
def outProj (y : Fin 4 → Fin 2048 → Fin 2048 → EReal) (w : Fin 1024 → Fin 2048 → EReal) (i : S4x2048x1024.Idx) : EReal :=
  ∑ k : Fin 2048, y (i 0) (i 1) k * w (i 2) k

theorem arr2 (y : Fin 4 → Fin 2048 → Fin 2048 → EReal) (w : Fin 1024 → Fin 2048 → EReal)
    (hy : ∀ b t d, V c (Pipeline.arrRef spec2 0) (ix3 b t d) = y b t d) (hw : ∀ e d, V c (Pipeline.arrRef spec2 1) (ix2 e d) = w e d) :
    (dat2 V c).arrAt 2 cfg2.N = outProj y w := by
  refine (dat2 V c).arrAt_eq_of_covers 2 _ (by decide +kernel) fun t hf j => ?_
  blk_simp
  rw [after2_2]
  obtain ⟨r, e, rfl⟩ : ∃ (r : Fin 512) (e : Fin 1024), j = ix3 (0 : Fin 1) r e := ⟨j 1, j 2, by blk_ext⟩
  have he : (win2_2.blk t).view.emb (ix3 (0 : Fin 1) r e) = (ix3 (⟨t.val / 4, ht0 t⟩ : Fin 4) (⟨t.val % 4 * 512 + r.val, by omega⟩ : Fin 2048) e : S4x2048x1024.Idx) := by
    blk_ext [index2_2 t]
  rw [he]
  refine (out_at (iblk2 V c 0 t) (iblk2 V c 1 t) r e).trans (Finset.sum_congr rfl fun k _ => ?_)
  refine congrArg₂ (· * ·) (Eq.trans ?_ (hy _ _ _)) (Eq.trans ?_ (hw _ _))
  · blk_ext [iblk2, index2_0 t]
  · blk_ext [iblk2, index2_1 t]

end Cert.KernelIdeal.Gen
-- ==== Proof.ScanArray.lean ====
/- The array the scan leaves, over the extended reals, entry by entry. -/
module

public import proofs.«01_k».proof.Proof.Region1
public import proofs.«01_k».proof.Proof.PayVals
public import Idealize.ShloMosaic.Lib.Pipeline.ValueKit

@[expose] public section

set_option maxRecDepth 65536

noncomputable section

namespace Cert.KernelIdeal.Gen

open Idealize.ShloMosaic Idealize.ShloMosaic.TcCoe Cert.Maths
open Idealize.ShloMosaic.Pipeline (Dat)

variable (V : (c : Dev nD) → (b : Ref sig .tc) → Buf (Elt Ideal) ((c : Thread nD τ).loc b)) (c : Dev nD)

theorem index1_0 : ∀ t : Fin cfg1.N, win1_0.index t = ![t.val / 16, t.val % 16, 0] := (by decide +kernel : ∀ t : Fin grid1.N, win1_0.index t = ![t.val / 16, t.val % 16, 0])
theorem index1_1 : ∀ t : Fin cfg1.N, win1_1.index t = ![t.val / 16, t.val % 16, 1] := (by decide +kernel : ∀ t : Fin grid1.N, win1_1.index t = ![t.val / 16, t.val % 16, 1])
theorem index1_2 : ∀ t : Fin cfg1.N, win1_2.index t = ![0, 0] := (by decide +kernel : ∀ t : Fin grid1.N, win1_2.index t = ![0, 0])
theorem index1_3 : ∀ t : Fin cfg1.N, win1_3.index t = ![0, 0] := (by decide +kernel : ∀ t : Fin grid1.N, win1_3.index t = ![0, 0])
theorem index1_4 : ∀ t : Fin cfg1.N, win1_4.index t = ![0, 0] := (by decide +kernel : ∀ t : Fin grid1.N, win1_4.index t = ![0, 0])
theorem index1_5 : ∀ t : Fin cfg1.N, win1_5.index t = ![0, 0] := (by decide +kernel : ∀ t : Fin grid1.N, win1_5.index t = ![0, 0])
theorem index1_6 : ∀ t : Fin cfg1.N, win1_6.index t = ![0, 0] := (by decide +kernel : ∀ t : Fin grid1.N, win1_6.index t = ![0, 0])
theorem index1_7 : ∀ t : Fin cfg1.N, win1_7.index t = ![0, 0] := (by decide +kernel : ∀ t : Fin grid1.N, win1_7.index t = ![0, 0])
theorem index1_8 : ∀ t : Fin cfg1.N, win1_8.index t = ![t.val / 16, t.val % 16, 0] := (by decide +kernel : ∀ t : Fin grid1.N, win1_8.index t = ![t.val / 16, t.val % 16, 0])

/-- The batch of a point. -/
abbrev batch (t : Fin cfg1.N) : Fin 4 := ⟨t.val / 16, by have := lt_of_lt_of_eq t.isLt N_1; omega⟩
/-- The row of the sequence that is row `s` of a point's block. -/
abbrev tok (t : Fin cfg1.N) (s : Fin 128) : Fin 2048 := ⟨t.val % 16 * 128 + s.val, by omega⟩

/-- What the arrays that the scan reads hold. -/
structure ScanArgs (xs z : Fin 4 → Fin 2048 → Fin 2048 → EReal) (wx : Fin 2080 → Fin 2048 → EReal) (wdt : Fin 2048 → Fin 16 → EReal) (bdt dv : Fin 2048 → EReal) : Prop where
  hxs : ∀ b t d, V c (Pipeline.arrRef spec1 0) (ix3 b t (⟨d.val, by omega⟩ : Fin 4096)) = xs b t d
  hz : ∀ b t d, V c (Pipeline.arrRef spec1 1) (ix3 b t (⟨2048 + d.val, by omega⟩ : Fin 4096)) = z b t d
  hwx : ∀ (e : Fin 32) k, V c (Pipeline.arrRef spec1 2) (ix2 e k) = wx ⟨e.val, by omega⟩ k
  hwc : ∀ (d : Fin 2048) k, V c (Pipeline.arrRef spec1 3) (ix2 d k) = wx ⟨32 + d.val, by omega⟩ k
  hwdt : ∀ n d, V c (Pipeline.arrRef spec1 4) (ix2 n d) = wdt d n
  hbdt : ∀ d, V c (Pipeline.arrRef spec1 5) (ix2 0 d) = bdt d
  hsp : ∀ (n : Fin 16) (l : Fin 2048), V c (Pipeline.arrRef spec1 6) (ix2 n l) = if l.val / 128 = n.val then (1 : EReal) else 0
  hdv : ∀ d, V c (Pipeline.arrRef spec1 7) (ix2 0 d) = dv d

variable {xs z : Fin 4 → Fin 2048 → Fin 2048 → EReal} {wx : Fin 2080 → Fin 2048 → EReal} {wdt : Fin 2048 → Fin 16 → EReal} {bdt dv : Fin 2048 → EReal}
variable (h : ScanArgs V c xs z wx wdt bdt dv) (t : Fin cfg1.N)

include h

theorem xs_blk (s : Fin 128) (d : Fin 2048) : iblk1 V c 0 t (ix3 0 s d) = xs (batch t) (tok t s) d := by
  refine Eq.trans ?_ (h.hxs _ _ _); blk_ext [iblk1, index1_0 t]
theorem z_blk (s : Fin 128) (d : Fin 2048) : iblk1 V c 1 t (ix3 0 s d) = z (batch t) (tok t s) d := by
  refine Eq.trans ?_ (h.hz _ _ _); blk_ext [iblk1, index1_1 t]
theorem wx_blk (e : Fin 32) (k : Fin 2048) : iblk1 V c 2 t (ix2 e k) = wx ⟨e.val, by omega⟩ k := by
  refine Eq.trans ?_ (h.hwx _ _); blk_ext [iblk1, index1_2 t]
theorem wc_blk (d k : Fin 2048) : iblk1 V c 3 t (ix2 d k) = wx ⟨32 + d.val, by omega⟩ k := by
  refine Eq.trans ?_ (h.hwc _ _); blk_ext [iblk1, index1_3 t]
theorem wdt_blk (n : Fin 16) (d : Fin 2048) : iblk1 V c 4 t (ix2 n d) = wdt d n := by
  refine Eq.trans ?_ (h.hwdt _ _); blk_ext [iblk1, index1_4 t]
theorem bdt_blk (d : Fin 2048) : iblk1 V c 5 t (ix2 0 d) = bdt d := by
  refine Eq.trans ?_ (h.hbdt _); blk_ext [iblk1, index1_5 t]
theorem sp_blk (n : Fin 16) (l : Fin 2048) : iblk1 V c 6 t (ix2 n l) = if l.val / 128 = n.val then (1 : EReal) else 0 := by
  refine Eq.trans ?_ (h.hsp _ _); blk_ext [iblk1, index1_6 t]
theorem dv_blk (d : Fin 2048) : iblk1 V c 7 t (ix2 0 d) = dv d := by
  refine Eq.trans ?_ (h.hdv _); blk_ext [iblk1, index1_7 t]

omit h in
/-- A sum of products of two blocks, each read as it is known. -/
theorem sum_prod {n : ℕ} {f g f' g' : Fin n → EReal} (hf : ∀ k, f k = f' k) (hg : ∀ k, g k = g' k) : ∑ k, f k * g k = ∑ k, f' k * g' k :=
  Finset.sum_congr rfl fun k _ => congrArg₂ (· * ·) (hf k) (hg k)

/-- The stream's block and the weight's. -/
abbrev sBlk (t : Fin cfg1.N) : Vec Ideal S1x128x2048 .f32 := iblk1 V c 0 t
abbrev wxBlk (t : Fin cfg1.N) : Vec Ideal S32x2048 .f32 := iblk1 V c 2 t

/-- A block's projections. -/
theorem xproj_blk (s : Fin 128) (e : Fin 32) :
    ∑ k : Fin 2048, sBlk V c t (ix3 0 s k) * wxBlk V c t (ix2 e k) = xproj xs wx (batch t) (tok t s) ⟨e.val, by omega⟩ :=
  sum_prod (fun k => xs_blk V c h t s k) (fun k => wx_blk V c h t e k)

/-- A block's step sizes. -/
theorem dt_blk (s : Fin 128) (d : Fin 2048) :
    scanDt (iblk1 V c 0 t) (iblk1 V c 2 t) (iblk1 V c 4 t) (iblk1 V c 5 t) (ix2 s d) = delta xs wx wdt bdt (batch t) (tok t s) d :=
  (dt_at (iblk1 V c 0 t) (iblk1 V c 2 t) (iblk1 V c 4 t) (iblk1 V c 5 t) s d).trans (congrArg softplus (congrArg₂ (· + ·)
    (sum_prod (fun n => xproj_blk V c h t s ⟨n.val, by omega⟩) (fun n => wdt_blk V c h t n d)) (bdt_blk V c h t d)))

/-- A block's input projections. -/
theorem b_blk (s : Fin 128) (l : Fin 2048) :
    scanB (iblk1 V c 0 t) (iblk1 V c 2 t) (iblk1 V c 6 t) (ix2 s l) = xproj xs wx (batch t) (tok t s) ⟨16 + l.val / 128, by omega⟩ := by
  refine (b_at (iblk1 V c 0 t) (iblk1 V c 2 t) (iblk1 V c 6 t) s l).trans ?_
  refine (sum_prod (fun n => xproj_blk V c h t s ⟨16 + n.val, by omega⟩) (fun n => sp_blk V c h t n l)).trans ?_
  exact sum_indicator (fun n : Fin 16 => xproj xs wx (batch t) (tok t s) ⟨16 + n.val, by omega⟩) ⟨l.val / 128, by omega⟩

/-- A block's rows are rows of the sequence. -/
theorem decay_blk (r : Fin 16) (l : Fin 2048) (s : ℕ) (hs : s < 128) :
    decayAt (scanDt (iblk1 V c 0 t) (iblk1 V c 2 t) (iblk1 V c 4 t) (iblk1 V c 5 t)) r l s
      = decay xs wx wdt bdt (batch t) (chan r l) ⟨l.val / 128, by omega⟩ (t.val % 16 * 128 + s) := by
  unfold decayAt decay
  rw [dt_blk V c h t, zero_sub]
  have e : tok t (row s) = seqRow (t.val % 16 * 128 + s) := Fin.ext (by show t.val % 16 * 128 + s % 128 = (t.val % 16 * 128 + s) % 2048; omega)
  rw [e]

theorem input_blk (r : Fin 16) (l : Fin 2048) (s : ℕ) (hs : s < 128) :
    inputAt (k1_pay3 (iblk1 V c 0 t)) (scanDt (iblk1 V c 0 t) (iblk1 V c 2 t) (iblk1 V c 4 t) (iblk1 V c 5 t)) (scanB (iblk1 V c 0 t) (iblk1 V c 2 t) (iblk1 V c 6 t)) r l s
      = input xs wx wdt bdt (batch t) (chan r l) ⟨l.val / 128, by omega⟩ (t.val % 16 * 128 + s) := by
  unfold inputAt input
  have e : tok t (row s) = seqRow (t.val % 16 * 128 + s) := Fin.ext (by show t.val % 16 * 128 + s % 128 = (t.val % 16 * 128 + s) % 2048; omega)
  rw [dt_blk V c h t, b_blk V c h t, x_at, xs_blk V c h t, e]

/-- Rows of a block, taken from the state before it. -/
theorem state_blk (r : Fin 16) (l : Fin 2048) (k : ℕ) (hk : k ≤ 128) :
    steps (decayAt (scanDt (iblk1 V c 0 t) (iblk1 V c 2 t) (iblk1 V c 4 t) (iblk1 V c 5 t)) r l)
        (inputAt (k1_pay3 (iblk1 V c 0 t)) (scanDt (iblk1 V c 0 t) (iblk1 V c 2 t) (iblk1 V c 4 t) (iblk1 V c 5 t)) (scanB (iblk1 V c 0 t) (iblk1 V c 2 t) (iblk1 V c 6 t)) r l)
        (state xs wx wdt bdt (batch t) (chan r l) ⟨l.val / 128, by omega⟩ (t.val % 16 * 128)) k
      = state xs wx wdt bdt (batch t) (chan r l) ⟨l.val / 128, by omega⟩ (t.val % 16 * 128 + k) := by
  unfold state
  rw [← steps_add]
  exact steps_congr rfl k (fun s hs => decay_blk V c h t r l s (by omega)) (fun s hs => input_blk V c h t r l s (by omega))

omit h in
theorem zero_state (r : Fin 16) (l : Fin 2048) : k1_pay2 (F := Ideal) (ix2 r l) = 0 := by
  pointwise [k1_pay2]

/-- The state a point leaves, and the state it starts from. -/
theorem state_vals : ∀ (n : ℕ) (t : Fin cfg1.N), t.val = n → ∀ (r : Fin 16) (l : Fin 2048),
    stateIn V c t (ix2 r l) = state xs wx wdt bdt (batch t) (chan r l) ⟨l.val / 128, by omega⟩ (t.val % 16 * 128)
      ∧ stateAt V c t.val t.isLt (ix2 r l) = state xs wx wdt bdt (batch t) (chan r l) ⟨l.val / 128, by omega⟩ (t.val % 16 * 128 + 128) := by
  intro n
  induction n using Nat.strong_induction_on with
  | _ n ih =>
    intro t ht r l
    have h1 : stateIn V c t (ix2 r l) = state xs wx wdt bdt (batch t) (chan r l) ⟨l.val / 128, by omega⟩ (t.val % 16 * 128) := by
      unfold stateIn
      split_ifs with h0
      · rw [zero_state, h0]; rfl
      · have hp := (ih (t.val - 1) (by omega) ⟨t.val - 1, by omega⟩ rfl r l).2
        refine hp.trans ?_
        have eb : batch ⟨t.val - 1, by omega⟩ = batch t := Fin.ext (by show (t.val - 1) / 16 = t.val / 16; omega)
        have et : (t.val - 1) % 16 * 128 + 128 = t.val % 16 * 128 := by omega
        show state xs wx wdt bdt (batch ⟨t.val - 1, _⟩) _ _ ((t.val - 1) % 16 * 128 + 128) = _
        rw [et]
        exact congrArg (fun b => state xs wx wdt bdt b (chan r l) ⟨l.val / 128, by omega⟩ (t.val % 16 * 128)) eb
    refine ⟨h1, ?_⟩
    rw [stateAt_eq]
    refine (scanEnd_at _ _ _ _ _ _ r l).trans ?_
    rw [h1]
    exact state_blk V c h t r l 128 (le_refl _)

/-- The array after the call. -/
theorem arr1 : (dat1 V c).arrAt 8 cfg1.N = fun i : S4x2048x2048.Idx => gated xs z wx wdt bdt dv (i 0) (i 1) (i 2) := by
  refine (dat1 V c).arrAt_eq_of_covers 8 _ (by decide +kernel) fun t hf j => ?_
  blk_simp
  rw [after1_8]
  obtain ⟨s, d, rfl⟩ : ∃ (s : Fin 128) (d : Fin 2048), j = ix3 (0 : Fin 1) s d := ⟨j 1, j 2, by blk_ext⟩
  have he : (win1_8.blk t).view.emb (ix3 (0 : Fin 1) s d) = (ix3 (batch t) (tok t s) d : S4x2048x2048.Idx) := by
    blk_ext [index1_8 t]
  rw [he]
  show _ = gated xs z wx wdt bdt dv (batch t) (tok t s) d
  unfold scanAt
  refine (scanOut_at _ _ _ _ _ _ _ _ _ s d).trans ?_
  unfold gated
  refine congrArg₂ (· * ·) (congrArg₂ (· + ·) (congrArg₂ (· * ·) (Finset.sum_congr rfl fun n _ => ?_)
    (sum_prod (fun k => xs_blk V c h t s k) (fun k => wc_blk V c h t d k)))
    (congrArg₂ (· * ·) (xs_blk V c h t s d) (dv_blk V c h t d))) (congrArg silu (z_blk V c h t s d))
  rw [(state_vals V c h t.val t rfl _ _).1, state_blk V c h t _ _ _ (by omega)]
  have ec : chan ⟨d.val / 128, by omega⟩ (lane n.val ⟨d.val % 128, Nat.mod_lt _ (by decide)⟩) = d := Fin.ext (by
    show d.val / 128 * 128 + (n.val * 128 + d.val % 128) % 2048 % 128 = d.val; omega)
  have en : (⟨(lane n.val ⟨d.val % 128, Nat.mod_lt _ (by decide)⟩).val / 128, by omega⟩ : Fin 16) = n := Fin.ext (by
    show (n.val * 128 + d.val % 128) % 2048 / 128 = n.val; omega)
  rw [ec, en, show (tok t s).val + 1 = t.val % 16 * 128 + (s.val + 1) from rfl]

end Cert.KernelIdeal.Gen
-- ==== Proof.HostVals.lean ====
/- What the kernel's host operations leave in the buffers that the calls read, over the extended reals, entry by entry. -/
module

public import proofs.«01_k».proof.Proof.Gen.KernelIdeal.Launch
public import Idealize.ShloMosaic.Lib.StableHlo.ReadAt
public import Idealize.ShloMosaic.Lib.Pointwise

@[expose] public section

set_option maxRecDepth 65536

noncomputable section

namespace Cert.KernelIdeal.Gen

open Idealize.ShloMosaic Idealize.ShloMosaic.TcCoe

variable (V0 : Valuation τ sig (Elt Ideal))

theorem taps_at (k : Fin 4) (d : Fin 2048) :
    StableHlo.after hostOps0 V0 (Proc.devRef .tc main_call0_v1) (ix2 k d) = V0 (Proc.devRef .tc main_arg2) (ix3 d 0 k) := by
  after_reads_at

theorem tapBias_at (d : Fin 2048) :
    StableHlo.after hostOps0 V0 (Proc.devRef .tc main_call0_v2) (ix2 0 d) = V0 (Proc.devRef .tc main_arg3) (ix1 d) := by
  after_reads_at

theorem wdtT_at (n : Fin 16) (d : Fin 2048) :
    StableHlo.after hostOps1 V0 (Proc.devRef .tc main_call0_v13) (ix2 n d) = V0 (Proc.devRef .tc main_arg5) (ix2 d n) := by
  after_reads_at

theorem bdtRow_at (d : Fin 2048) :
    StableHlo.after hostOps1 V0 (Proc.devRef .tc main_call0_v14) (ix2 0 d) = V0 (Proc.devRef .tc main_arg6) (ix1 d) := by
  after_reads_at

theorem dvRow_at (d : Fin 2048) :
    StableHlo.after hostOps1 V0 (Proc.devRef .tc main_call0_v15) (ix2 0 d) = V0 (Proc.devRef .tc main_arg8) (ix1 d) := by
  after_reads_at

theorem wx1_at (e : Fin 32) (k : Fin 2048) :
    StableHlo.after hostOps1 V0 (Proc.devRef .tc main_call0_v16) (ix2 e k) = V0 (Proc.devRef .tc main_arg4) (ix2 (⟨e.val, by omega⟩ : Fin 2080) k) := by
  after_reads_at

theorem wx2_at (d : Fin 2048) (k : Fin 2048) :
    StableHlo.after hostOps1 V0 (Proc.devRef .tc main_call0_v17) (ix2 d k) = V0 (Proc.devRef .tc main_arg4) (ix2 (⟨32 + d.val, by omega⟩ : Fin 2080) k) := by
  after_reads_at

/-- The floor of a word over 128, as it is computed: the quotient rounded to zero, less one where the signs differ and it is not exact. -/
def floor128 (w : BitVec 32) : BitVec 32 :=
  Scalar.select
    (IntOp.andi
      (IntOp.cmpi .ne (if w = 0 then 0 else if w.msb = true then -1 else 1)
        (if (128#32 : BitVec 32) = 0 then 0 else if BitVec.msb (128#32 : BitVec 32) = true then -1 else 1 : BitVec 32))
      (IntOp.cmpi .ne (IntOp.remsi .host w 128#32) 0#32))
    (IntOp.subi (IntOp.divsi .host w 128#32) 1#32) (IntOp.divsi .host w 128#32)

/-- It is the quotient, at every lane. -/
theorem floor128_eq : ∀ l : Fin 2048, floor128 (BitVec.ofNat 32 l.val) = BitVec.ofNat 32 (l.val / 128) := by decide +kernel

/-- Whether a lane belongs to a state, as a word and as a number. -/
theorem word_eq (k n : Fin 16) : IntOp.cmpi .eq (BitVec.ofNat 32 k.val) (BitVec.ofNat 32 n.val) = if k.val = n.val then 1#1 else 0#1 := by
  revert k n; decide +kernel

theorem spread_at (n : Fin 16) (l : Fin 2048) :
    StableHlo.after hostOps1 V0 (Proc.devRef .tc main_call0_v12) (ix2 n l) = if l.val / 128 = n.val then (1 : EReal) else 0 := by
  after_reads_at
  show FloatOps.uitofp (F := Ideal) .f32 (IntOp.cmpi .eq (floor128 (BitVec.ofNat 32 l.val)) (BitVec.ofNat 32 n.val)) = _
  rw [floor128_eq, word_eq ⟨l.val / 128, by omega⟩ n]
  show (((if l.val / 128 = n.val then 1#1 else 0#1 : BitVec 1).toNat : ℝ) : EReal) = _
  split_ifs <;> simp

end Cert.KernelIdeal.Gen
-- ==== Proof.KernelValue.lean ====
/- The array the kernel leaves, over the extended reals: the block of its arguments. -/
module

public import proofs.«01_k».proof.Proof.Run
public import proofs.«01_k».proof.Proof.CallVals
public import proofs.«01_k».proof.Proof.ScanArray
public import proofs.«01_k».proof.Proof.HostVals

@[expose] public section

set_option maxRecDepth 16384

noncomputable section

namespace Cert.KernelIdeal.Gen

open Idealize.ShloMosaic Idealize.ShloMosaic.TcCoe Cert.Maths

variable (m : (ℓ : Loc nD τ sig) → Buf (Elt Ideal) ℓ) (ρ : Dev nD → PrngReg) (c : Dev nD)

/-! The arguments, entry by entry. -/

abbrev argX : Fin 4 → Fin 2048 → Fin 1024 → EReal := fun b t k => m ((c : Thread nD τ).loc main_arg0) (ix3 b t k)
abbrev argWin : Fin 4096 → Fin 1024 → EReal := fun e k => m ((c : Thread nD τ).loc main_arg1) (ix2 e k)
abbrev argTaps : Fin 2048 → Fin 4 → EReal := fun d k => m ((c : Thread nD τ).loc main_arg2) (ix3 d (0 : Fin 1) k)
abbrev argTapBias : Fin 2048 → EReal := fun d => m ((c : Thread nD τ).loc main_arg3) (ix1 d)
abbrev argWx : Fin 2080 → Fin 2048 → EReal := fun e k => m ((c : Thread nD τ).loc main_arg4) (ix2 e k)
abbrev argWdt : Fin 2048 → Fin 16 → EReal := fun d n => m ((c : Thread nD τ).loc main_arg5) (ix2 d n)
abbrev argBdt : Fin 2048 → EReal := fun d => m ((c : Thread nD τ).loc main_arg6) (ix1 d)
abbrev argD : Fin 2048 → EReal := fun d => m ((c : Thread nD τ).loc main_arg8) (ix1 d)
abbrev argWout : Fin 1024 → Fin 2048 → EReal := fun e d => m ((c : Thread nD τ).loc main_arg9) (ix2 e d)

/-- After the first call: the stream and the gate. -/
theorem v3_val : W3 m ρ c (Proc.devRef .tc main_call0_v3) = inProj (argX m c) (argWin m c) (argTaps m c) (argTapBias m c) := by
  refine (W3_of m ρ c main_call0_v3 (by decide)).trans ((W2_arr m ρ c 4).trans (arr0 (V1 m ρ) c ?_ ?_ ?_ ?_))
  · exact fun b t k => congrFun (W1_args m ρ c main_arg0 (by decide)) (ix3 b t k)
  · exact fun e k => congrFun (W1_args m ρ c main_arg1 (by decide)) (ix2 e k)
  · exact fun d k => (taps_at (W0 m ρ c) k d)
  · exact fun d => (tapBias_at (W0 m ρ c) d)

/-- What the scan reads. -/
theorem scanArgs : ScanArgs (V3 m ρ) c (stream (argX m c) (argWin m c) (argTaps m c) (argTapBias m c)) (gate (argX m c) (argWin m c))
    (argWx m c) (argWdt m c) (argBdt m c) (argD m c) where
  hxs b t d := (congrFun (v3_val m ρ c) _).trans (inProj_stream b t d)
  hz b t d := (congrFun (v3_val m ρ c) _).trans (inProj_gate b t d)
  hwx e k := (wx1_at (W2 m ρ c) e k).trans (congrFun (W2_args m ρ c main_arg4 (by decide)) _)
  hwc d k := (wx2_at (W2 m ρ c) d k).trans (congrFun (W2_args m ρ c main_arg4 (by decide)) _)
  hwdt n d := (wdtT_at (W2 m ρ c) n d).trans (congrFun (W2_args m ρ c main_arg5 (by decide)) _)
  hbdt d := (bdtRow_at (W2 m ρ c) d).trans (congrFun (W2_args m ρ c main_arg6 (by decide)) _)
  hsp n l := spread_at (W2 m ρ c) n l
  hdv d := (dvRow_at (W2 m ρ c) d).trans (congrFun (W2_args m ρ c main_arg8 (by decide)) _)

/-- The block of a launch's arguments. -/
def kernelBlock : S4x2048x1024.Idx → EReal := fun i =>
  block (argX m c) (argWin m c) (argTaps m c) (argTapBias m c) (argWx m c) (argWdt m c) (argBdt m c) (argD m c) (argWout m c) (i 0) (i 1) (i 2)

/-- The result. -/
theorem result_val : W5 m ρ c (Proc.devRef .tc main_v0) = kernelBlock m c := by
  refine (W5_arr m ρ c 2).trans (arr2 (V4 m ρ) c _ _ (fun b t d => ?_) fun e d => ?_)
  · exact congrFun ((W4_arr m ρ c 8).trans (arr1 (V3 m ρ) c (scanArgs m ρ c))) (ix3 b t d)
  · exact congrFun (W4_args m ρ c main_arg9 (by decide)) (ix2 e d)

end Cert.KernelIdeal.Gen
-- ==== Proof.RefStages.lean ====
module

public import proofs.«01_k».proof.Proof.RefRun
public import proofs.«01_k».proof.Proof.Maths
public import Idealize.ShloMosaic.Lib.StableHlo.ReadAt
public import Idealize.ShloMosaic.Lib.Pointwise

/-! # What the reference holds when its loop begins

The reference computes the convolved stream, the step size, the two projections that depend on the row, and the matrix of rates, and lays
them out row first. Each stretch of operations is read at one entry, of any contents before it; then the stretches are put together. -/

@[expose] public section

set_option maxRecDepth 65536

noncomputable section

namespace Cert.ReferenceIdeal.Value

open Cert.ReferenceIdeal Cert.ReferenceIdeal.Gen Idealize.ShloMosaic Idealize.ShloMosaic.TcCoe Cert.Maths

section

variable (V0 : Valuation τ sig (Elt Ideal))

/-! ## The arguments, as functions of their coordinates -/

abbrev inX : Fin 4 → Fin 2048 → Fin 1024 → EReal := fun b t k => V0 (Proc.devRef .tc main_arg0) (ix3 b t k)
abbrev inWin : Fin 4096 → Fin 1024 → EReal := fun e k => V0 (Proc.devRef .tc main_arg1) (ix2 e k)
abbrev inTaps : Fin 2048 → Fin 4 → EReal := fun d k => V0 (Proc.devRef .tc main_arg2) (ix3 d (0 : Fin 1) k)
abbrev inTapBias : Fin 2048 → EReal := fun d => V0 (Proc.devRef .tc main_arg3) (ix1 d)
abbrev inWx : Fin 2080 → Fin 2048 → EReal := fun e k => V0 (Proc.devRef .tc main_arg4) (ix2 e k)
abbrev inWdt : Fin 2048 → Fin 16 → EReal := fun d n => V0 (Proc.devRef .tc main_arg5) (ix2 d n)
abbrev inBdt : Fin 2048 → EReal := fun d => V0 (Proc.devRef .tc main_arg6) (ix1 d)
abbrev inLog : Fin 2048 → Fin 16 → EReal := fun d n => V0 (Proc.devRef .tc main_arg7) (ix2 d n)
abbrev inD : Fin 2048 → EReal := fun d => V0 (Proc.devRef .tc main_arg8) (ix1 d)
abbrev inWout : Fin 1024 → Fin 2048 → EReal := fun e k => V0 (Proc.devRef .tc main_arg9) (ix2 e k)

/-! Four results on the way, read the same way. -/

abbrev hidden : Fin 4 → Fin 2048 → Fin 2048 → EReal := fun b t d => V0 (Proc.devRef .tc main_v36) (ix3 b t d)
abbrev scanned : Fin 4 → Fin 2048 → Fin 2048 → EReal := fun b t d => V0 (Proc.devRef .tc main_v54_7) (ix3 t b d)
abbrev mixed : Fin 4 → Fin 2048 → Fin 2048 → EReal := fun b t d => V0 (Proc.devRef .tc main_v59) (ix3 b t d)
abbrev gating : Fin 4 → Fin 2048 → Fin 2048 → EReal := fun b t d => V0 (Proc.devRef .tc main_v60) (ix3 b t d)

/-! ## One stretch at a time -/

variable (b : Fin 4) (t d : Fin 2048)

/-- The half of the in-projection that is convolved. -/
theorem at_v1 : StableHlo.after hostOps0 V0 (Proc.devRef .tc main_v1) (ix3 b t d) = proj (inX V0) (inWin V0) b ⟨d.val, by omega⟩ t := by
  after_reads_at
  rfl

/-- The half that gates. -/
theorem at_v2 : StableHlo.after hostOps0 V0 (Proc.devRef .tc main_v2) (ix3 b t d) = gate (inX V0) (inWin V0) b t d := by
  after_reads_at
  rfl

/-- The word that fills the padding. -/
theorem at_c : StableHlo.after hostOps0 V0 (Proc.devRef .tc main_c) = constantI S_ 32 0#32 := by
  after_reads_simp
  all_goals rfl

/-- The stream with three rows of the padding in front. -/
theorem at_v3 (r : Fin 2051) : StableHlo.after hostOps0_1 V0 (Proc.devRef .tc main_v3) (ix3 b r d)
    = if h : 3 ≤ r.val ∧ r.val - 3 < 2048 then V0 (Proc.devRef .tc main_v1) (ix3 b (⟨r.val - 3, h.2⟩ : Fin 2048) d)
      else FloatOps.sitofp (F := Ideal) .f32 (V0 (Proc.devRef .tc main_c) (Shape.Idx.first h_S_)) := by
  after_reads_at

/-- Four shifted rows, each times its tap, and the bias. -/
theorem at_v35 (P : Fin 2051 → EReal) (hP : ∀ r : Fin 2051, V0 (Proc.devRef .tc main_v3) (ix3 b r d) = P r) :
    StableHlo.after hostOps0_2 V0 (Proc.devRef .tc main_v35) (ix3 b t d)
    = P ⟨t.val, by omega⟩ * inTaps V0 d 0 + P ⟨1 + t.val, by omega⟩ * inTaps V0 d 1 + P ⟨2 + t.val, by omega⟩ * inTaps V0 d 2
      + P ⟨3 + t.val, by omega⟩ * inTaps V0 d 3 + inTapBias V0 d := by
  simp only [← hP]
  after_reads_at

/-- The activation of the stream. -/
theorem at_v36 : StableHlo.after hostOps0_3 V0 (Proc.devRef .tc main_v36) (ix3 b t d) = silu (V0 (Proc.devRef .tc main_v35) (ix3 b t d)) := by
  after_reads_at
  rfl

/-- The rows of the projection that weigh the input, -/
theorem at_v39 (n : Fin 16) : StableHlo.after hostOps0_4 V0 (Proc.devRef .tc main_v39) (ix3 b t n)
    = xproj (hidden V0) (inWx V0) b t ⟨16 + n.val, by omega⟩ := by
  after_reads_at
  rfl

/-- those that weigh the output, -/
theorem at_v40 : StableHlo.after hostOps0_4 V0 (Proc.devRef .tc main_v40) (ix3 b t d)
    = xproj (hidden V0) (inWx V0) b t ⟨32 + d.val, by omega⟩ := by
  after_reads_at
  rfl

/-- and the step size before its activation. -/
theorem at_v44 : StableHlo.after hostOps0_4 V0 (Proc.devRef .tc main_v44) (ix3 b t d)
    = ∑ n : Fin 16, xproj (hidden V0) (inWx V0) b t ⟨n.val, by omega⟩ * inWdt V0 d n + inBdt V0 d := by
  after_reads_at
  rfl

/-- The activation of the step size. -/
theorem at_v45 : StableHlo.after hostOps0_5 V0 (Proc.devRef .tc main_v45) (ix3 b t d) = softplus (V0 (Proc.devRef .tc main_v44) (ix3 b t d)) := by
  after_reads_at
  rw [if_neg (fun h => h rfl)]
  unfold softplus
  rw [zero_sub]

/-! What the loop carries: the stream, the step size and the projections row first, the rates, and a state of zeros. -/

theorem at_v54_0 : StableHlo.after hostOps0_6 V0 (Proc.devRef .tc main_v54_0) (ix3 t b d) = V0 (Proc.devRef .tc main_v36) (ix3 b t d) := by
  after_reads_at
  simp only [id]
  pointwise

theorem at_v54_1 : StableHlo.after hostOps0_6 V0 (Proc.devRef .tc main_v54_1) (ix3 t b d) = V0 (Proc.devRef .tc main_v45) (ix3 b t d) := by
  after_reads_at
  simp only [id]
  pointwise

theorem at_v54_2 (n : Fin 16) : StableHlo.after hostOps0_6 V0 (Proc.devRef .tc main_v54_2) (ix3 t b n) = V0 (Proc.devRef .tc main_v39) (ix3 b t n) := by
  after_reads_at
  simp only [id]
  pointwise

theorem at_v54_3 : StableHlo.after hostOps0_6 V0 (Proc.devRef .tc main_v54_3) (ix3 t b d) = V0 (Proc.devRef .tc main_v40) (ix3 b t d) := by
  after_reads_at
  simp only [id]
  pointwise

theorem at_v54_4 (n : Fin 16) : StableHlo.after hostOps0_6 V0 (Proc.devRef .tc main_v54_4) (ix2 d n) = -Ideal.exp (inLog V0 d n) := by
  after_reads_at
  simp only [id]
  pointwise

theorem at_v54_6 (n : Fin 16) : StableHlo.after hostOps0_6 V0 (Proc.devRef .tc main_v54_6) (ix3 b d n) = (0 : EReal) := by
  after_reads_at
  simp only [id]
  pointwise

/-! After the loop: the stream's own share, the activated gate, and the out-projection. -/

theorem at_v59 : StableHlo.after hostOps0_7 V0 (Proc.devRef .tc main_v59) (ix3 b t d)
    = scanned V0 b t d + hidden V0 b t d * inD V0 d := by
  after_reads_at

theorem at_v60 : StableHlo.after hostOps0_8 V0 (Proc.devRef .tc main_v60) (ix3 b t d) = silu (V0 (Proc.devRef .tc main_v2) (ix3 b t d)) := by
  after_reads_at
  rfl

theorem at_v62 (e : Fin 1024) : StableHlo.after hostOps0_9 V0 (Proc.devRef .tc main_v62) (ix3 b t e)
    = ∑ k : Fin 2048, mixed V0 b t k * gating V0 b t k * inWout V0 e k := by
  after_reads_at

end

end Cert.ReferenceIdeal.Value

end
-- ==== Proof.RefStep.lean ====
module

public import proofs.«01_k».proof.Proof.RefRun
public import proofs.«01_k».proof.Proof.Maths
public import Idealize.ShloMosaic.Lib.Pointwise
public import Idealize.ShloMosaic.Lib.WordArith.Masks

/-! # One trip of the reference's loop, at an entry

A trip reads the row its counter names of each array that is laid out row first, updates the state, and puts one row in the result. -/

@[expose] public section

set_option maxRecDepth 65536

noncomputable section

namespace Cert.ReferenceIdeal.Value

open Cert.ReferenceIdeal Cert.ReferenceIdeal.Gen Idealize.ShloMosaic Idealize.ShloMosaic.TcCoe Cert.Maths

/-- Where a slice of one row begins, when the counter is at `k`. -/
def starts (k : ℕ) : Fin 3 → ℤ := ![(k : ℤ), 0, 0]

/-- The counter at `k`, read as an integer, with the two zeros after it. -/
theorem starts_eq (k : ℕ) (hk : k < 2048) (z : (⟨S_, .i32⟩ : BufTy).Contents (Elt Ideal)) (hz : z = fun _ => Scf.iv 0#32 1#32 k) :
    (fun a : Fin 3 => (((![z, constantI S_ 32 0#32, constantI S_ 32 0#32] : Fin 3 → (⟨S_, .i32⟩ : BufTy).Contents (Elt Ideal))) a (Shape.Idx.first h_S_)).toInt)
      = starts k := by
  subst hz
  funext a
  have h1 : (Scf.iv 0#32 1#32 k).toInt = (k : ℤ) := by
    rw [BitVec.toInt_eq_toNat_of_lt, WordArith.toNat_iv_zero_one k (by omega)]
    rw [WordArith.toNat_iv_zero_one k (by omega)]; omega
  match a with
  | 0 => exact h1
  | 1 => rfl
  | 2 => rfl

/-! A slice of one row of `2048` begins where it says: every start lies inside the array. -/

theorem clamp_row (n : ℕ) (ht : (⟨3, ![1, 4, n]⟩ : Shape).rank = (⟨3, ![2048, 4, n]⟩ : Shape).rank) (k : Fin 2048) :
    Host.clampedStart ⟨3, ![2048, 4, n]⟩ ⟨3, ![1, 4, n]⟩ ht (starts k.val) 0 = k.val :=
  Host.clampedStart_of_le ht _ _ _ rfl (by show k.val + 1 ≤ 2048; omega)

theorem clamp_batch (n : ℕ) (ht : (⟨3, ![1, 4, n]⟩ : Shape).rank = (⟨3, ![2048, 4, n]⟩ : Shape).rank) (k : Fin 2048) :
    Host.clampedStart ⟨3, ![2048, 4, n]⟩ ⟨3, ![1, 4, n]⟩ ht (starts k.val) 1 = 0 :=
  Host.clampedStart_of_le ht _ _ _ rfl (by show 0 + 4 ≤ 4; omega)

theorem clamp_lane (n : ℕ) (ht : (⟨3, ![1, 4, n]⟩ : Shape).rank = (⟨3, ![2048, 4, n]⟩ : Shape).rank) (k : Fin 2048) :
    Host.clampedStart ⟨3, ![2048, 4, n]⟩ ⟨3, ![1, 4, n]⟩ ht (starts k.val) 2 = 0 :=
  Host.clampedStart_of_le ht _ _ _ rfl (by show 0 + n ≤ n; omega)

/-- Row `k` of an array of rows, cut out and its first axis dropped. -/
theorem row_of {st : Fin 3 → ℤ} (x : Vec Ideal S2048x4x2048 .f32) {k : Fin 2048} (hst : st = starts k.val) (b : Fin 4) (d : Fin 2048) :
    shapeCast S4x2048 (Host.dynamicSlice S1x4x2048 x st sliceFits_S2048x4x2048_S1x4x2048) shapeCasts_S1x4x2048_S4x2048 (ix2 b d) = x (ix3 k b d) := by
  subst hst
  pointwise
  refine congrArg x (congr (congrArg₂ ix3 (Fin.ext (clamp_row _ rfl k)) (Fin.ext ?_)) (Fin.ext ?_))
  · exact (congrArg (· + b.val) (clamp_batch _ rfl k)).trans (Nat.zero_add _)
  · exact (congrArg (· + d.val) (clamp_lane _ rfl k)).trans (Nat.zero_add _)

/-- The same of rows of sixteen. -/
theorem row16_of {st : Fin 3 → ℤ} (x : Vec Ideal S2048x4x16 .f32) {k : Fin 2048} (hst : st = starts k.val) (b : Fin 4) (n : Fin 16) :
    shapeCast S4x16 (Host.dynamicSlice S1x4x16 x st sliceFits_S2048x4x16_S1x4x16) shapeCasts_S1x4x16_S4x16 (ix2 b n) = x (ix3 k b n) := by
  subst hst
  pointwise
  refine congrArg x (congr (congrArg₂ ix3 (Fin.ext (clamp_row _ rfl k)) (Fin.ext ?_)) (Fin.ext ?_))
  · exact (congrArg (· + b.val) (clamp_batch _ rfl k)).trans (Nat.zero_add _)
  · exact (congrArg (· + n.val) (clamp_lane _ rfl k)).trans (Nat.zero_add _)

/-- A row put in place of row `k`. -/
theorem row_into {st : Fin 3 → ℤ} (x : Vec Ideal S2048x4x2048 .f32) (u : Vec Ideal S1x4x2048 .f32) {k : Fin 2048} (hst : st = starts k.val) (t : Fin 2048) (b : Fin 4) (d : Fin 2048) :
    Host.dynamicUpdateSlice x u st updateFits_S2048x4x2048_S1x4x2048 (ix3 t b d) = if t = k then u (ix3 (0 : Fin 1) b d) else x (ix3 t b d) := by
  subst hst
  rw [Host.dynamicUpdateSlice_apply]
  have c0 := clamp_row 2048 updateFits_S2048x4x2048_S1x4x2048.1 k
  have c1 := clamp_batch 2048 updateFits_S2048x4x2048_S1x4x2048.1 k
  have c2 := clamp_lane 2048 updateFits_S2048x4x2048_S1x4x2048.1 k
  by_cases htk : t = k
  · subst htk
    rw [if_pos rfl, dif_pos]
    · refine congrArg u (funext fun a => Fin.ext ?_)
      match a with
      | 0 => exact (congrArg (t.val - ·) c0).trans (Nat.sub_self _)
      | 1 => exact (congrArg (b.val - ·) c1).trans (Nat.sub_zero _)
      | 2 => exact (congrArg (d.val - ·) c2).trans (Nat.sub_zero _)
    · intro a
      match a with
      | 0 => exact ⟨c0.le, (Nat.lt_succ_self _).trans_eq (congrArg (· + 1) c0.symm)⟩
      | 1 => exact ⟨c1.le.trans (Nat.zero_le _), b.isLt.trans_eq ((Nat.zero_add 4).symm.trans (congrArg (· + 4) c1.symm))⟩
      | 2 => exact ⟨c2.le.trans (Nat.zero_le _), d.isLt.trans_eq ((Nat.zero_add 2048).symm.trans (congrArg (· + 2048) c2.symm))⟩
  · rw [if_neg htk, dif_neg]
    intro h
    have h1 : k.val ≤ t.val := c0.symm.le.trans (h 0).1
    have h2 : t.val < k.val + 1 := (h 0).2.trans_eq (congrArg (· + 1) c0)
    exact htk (Fin.ext (by omega))

section

variable (V0 : Valuation τ sig (Elt Ideal))

/-! What the loop carries, as functions of their coordinates. -/

abbrev rowX : Fin 4 → Fin 2048 → Fin 2048 → EReal := fun b t d => V0 (Proc.devRef .tc main_v54_0) (ix3 t b d)
abbrev rowDelta : Fin 4 → Fin 2048 → Fin 2048 → EReal := fun b t d => V0 (Proc.devRef .tc main_v54_1) (ix3 t b d)
abbrev rowIn : Fin 4 → Fin 2048 → Fin 16 → EReal := fun b t n => V0 (Proc.devRef .tc main_v54_2) (ix3 t b n)
abbrev rowOut : Fin 4 → Fin 2048 → Fin 2048 → EReal := fun b t d => V0 (Proc.devRef .tc main_v54_3) (ix3 t b d)
abbrev rates : Fin 2048 → Fin 16 → EReal := fun d n => V0 (Proc.devRef .tc main_v54_4) (ix2 d n)
abbrev held6 : Fin 4 → Fin 2048 → Fin 16 → EReal := fun b d n => V0 (Proc.devRef .tc main_v54_6) (ix3 b d n)
abbrev held7 : Fin 4 → Fin 2048 → Fin 2048 → EReal := fun b t d => V0 (Proc.devRef .tc main_v54_7) (ix3 t b d)

/-- The counter is at `k`. -/
def AtTrip (k : ℕ) : Prop := V0 (Proc.devRef .tc main_v54_5) = fun _ => Scf.iv 0#32 1#32 k

/-- The state the trip computes. -/
abbrev newState : Fin 4 → Fin 2048 → Fin 16 → EReal := fun b d n => res_main_while0b_v80 V0 (ix3 b d n)

/-- It is the decayed state and the new input. -/
theorem state_after (k : Fin 2048) (h : AtTrip V0 k.val) (b : Fin 4) (d : Fin 2048) (n : Fin 16) :
    newState V0 b d n
      = held6 V0 b d n * Ideal.exp (rowDelta V0 b k d * rates V0 d n) + rowDelta V0 b k d * rowX V0 b k d * rowIn V0 b k n := by
  show res_main_while0b_v80 V0 (ix3 b d n) = _
  unfold res_main_while0b_v80 res_main_while0b_v64
  generalize e0 : shapeCast S4x2048 (Host.dynamicSlice S1x4x2048 (V0 (Proc.devRef .tc main_v54_0)) _ _) _ = p0
  generalize e1 : shapeCast S4x2048 (Host.dynamicSlice S1x4x2048 (V0 (Proc.devRef .tc main_v54_1)) _ _) _ = p1
  generalize e2 : shapeCast S4x16 (Host.dynamicSlice S1x4x16 (V0 (Proc.devRef .tc main_v54_2)) _ _) _ = p2
  have r0 : p0 (ix2 b d) = rowX V0 b k d := e0 ▸ row_of _ (starts_eq k.val k.isLt _ h) b d
  have r1 : p1 (ix2 b d) = rowDelta V0 b k d := e1 ▸ row_of _ (starts_eq k.val k.isLt _ h) b d
  have r2 : p2 (ix2 b n) = rowIn V0 b k n := e2 ▸ row16_of _ (starts_eq k.val k.isLt _ h) b n
  pointwise
  rw [r0, r1, r2]

/-- The rows a trip leaves: row `k` is the sum of the states against the output's weight, the others are as before. -/
theorem rows_after (k : Fin 2048) (h : AtTrip V0 k.val) (b : Fin 4) (t d : Fin 2048) :
    step_main_v54_7 V0 (ix3 t b d)
      = if t = k then (∑ n : Fin 16, newState V0 b d n) * rowOut V0 b k d else held7 V0 b t d := by
  unfold step_main_v54_7
  generalize e3 : shapeCast S4x2048 (Host.dynamicSlice S1x4x2048 (V0 (Proc.devRef .tc main_v54_3)) _ _) _ = p3
  have r3 : p3 (ix2 b d) = rowOut V0 b k d := e3 ▸ row_of _ (starts_eq k.val k.isLt _ h) b d
  refine (row_into _ _ (starts_eq k.val k.isLt _ h) t b d).trans ?_
  congr 1
  pointwise
  rw [r3]

end

end Cert.ReferenceIdeal.Value

end
-- ==== Proof.RefLoop.lean ====
module

public import proofs.«01_k».proof.Proof.RefStep

/-! # The reference's loop, all trips

Before trip `k` the state is `k` steps of the recursion from zero, and the first `k` rows of the result are written. -/

@[expose] public section

set_option maxRecDepth 65536

noncomputable section

namespace Cert.ReferenceIdeal.Value

open Cert.ReferenceIdeal Cert.ReferenceIdeal.Gen Idealize.ShloMosaic Idealize.ShloMosaic.TcCoe Cert.Maths

variable (E : Valuation τ sig (Elt Ideal))

/-- A buffer no trip changes holds what it held. -/
theorem kept {r : DevRef τ sig} (h : ∀ V : Valuation τ sig (Elt Ideal), STEP V r = V r) : ∀ k, STEP^[k] E r = E r
  | 0 => rfl
  | k + 1 => by rw [Function.iterate_succ_apply', h, kept h k]

theorem rowX_kept (k : ℕ) : rowX (STEP^[k] E) = rowX E := by unfold rowX; rw [kept E STEP_main_v54_0 k]
theorem rowDelta_kept (k : ℕ) : rowDelta (STEP^[k] E) = rowDelta E := by unfold rowDelta; rw [kept E STEP_main_v54_1 k]
theorem rowIn_kept (k : ℕ) : rowIn (STEP^[k] E) = rowIn E := by unfold rowIn; rw [kept E STEP_main_v54_2 k]
theorem rowOut_kept (k : ℕ) : rowOut (STEP^[k] E) = rowOut E := by unfold rowOut; rw [kept E STEP_main_v54_3 k]
theorem rates_kept (k : ℕ) : rates (STEP^[k] E) = rates E := by unfold rates; rw [kept E STEP_main_v54_4 k]

/-- What row `s` multiplies the state by, -/
def rowDecay (b : Fin 4) (d : Fin 2048) (n : Fin 16) (s : ℕ) : EReal := Ideal.exp (rowDelta E b (seqRow s) d * rates E d n)

/-- and what it adds. -/
def rowInput (b : Fin 4) (d : Fin 2048) (n : Fin 16) (s : ℕ) : EReal := rowDelta E b (seqRow s) d * rowX E b (seqRow s) d * rowIn E b (seqRow s) n

/-- The state after `k` rows. -/
def rowState (b : Fin 4) (d : Fin 2048) (n : Fin 16) (k : ℕ) : EReal := steps (rowDecay E b d n) (rowInput E b d n) 0 k

theorem seqRow_of_lt (k : ℕ) (hk : k < 2048) : seqRow k = ⟨k, hk⟩ := Fin.ext (Nat.mod_eq_of_lt hk)

/-- Trip `k` takes the state after `k` rows to the state after `k + 1`. -/
theorem newState_eq (k : ℕ) (hk : k < 2048) (hc : AtTrip (STEP^[k] E) k) (h : ∀ b d n, held6 (STEP^[k] E) b d n = rowState E b d n k)
    (b : Fin 4) (d : Fin 2048) (n : Fin 16) : newState (STEP^[k] E) b d n = rowState E b d n (k + 1) := by
  rw [state_after (STEP^[k] E) ⟨k, hk⟩ hc, h, rowX_kept, rowDelta_kept, rowIn_kept, rates_kept]
  show _ = rowState E b d n k * rowDecay E b d n k + rowInput E b d n k
  unfold rowDecay rowInput
  rw [seqRow_of_lt k hk]

/-- All trips up to the `k`-th. -/
theorem trips (hc : ∀ k, AtTrip (STEP^[k] E) k) (h0 : ∀ b d n, held6 E b d n = 0) : ∀ k, k ≤ 2048 →
    (∀ b d n, held6 (STEP^[k] E) b d n = rowState E b d n k)
    ∧ ∀ b (t : Fin 2048) d, t.val < k → held7 (STEP^[k] E) b t d = (∑ n : Fin 16, rowState E b d n (t.val + 1)) * rowOut E b t d
  | 0, _ => ⟨h0, fun _ _ _ h => absurd h (Nat.not_lt_zero _)⟩
  | k + 1, hk => by
    obtain ⟨h6, h7⟩ := trips hc h0 k (by omega)
    have hn := newState_eq E k hk (hc k) h6
    rw [Function.iterate_succ_apply']
    refine ⟨fun b d n => ?_, fun b t d ht => ?_⟩
    · show STEP (STEP^[k] E) (Proc.devRef .tc main_v54_6) (ix3 b d n) = _
      rw [STEP_main_v54_6]
      exact hn b d n
    · show STEP (STEP^[k] E) (Proc.devRef .tc main_v54_7) (ix3 t b d) = _
      rw [STEP_main_v54_7]
      refine (rows_after (STEP^[k] E) ⟨k, hk⟩ (hc k) b t d).trans ?_
      by_cases htk : t = ⟨k, hk⟩
      · subst htk
        rw [if_pos rfl, rowOut_kept]
        exact congrArg (· * _) (Finset.sum_congr rfl fun n _ => hn b d n)
      · rw [if_neg htk]
        exact h7 b t d (by have h : t.val ≠ k := fun h => htk (Fin.ext h); omega)

end Cert.ReferenceIdeal.Value

end
-- ==== Proof.RefValue.lean ====
module

public import proofs.«01_k».proof.Proof.RefStages
public import proofs.«01_k».proof.Proof.RefLoop

/-! # The reference's result

The stretches before the loop, the loop and the stretches after it, put together: where the matrix of logarithms is the one the model draws, the
result is the block of the arguments. -/

@[expose] public section

set_option maxRecDepth 65536

noncomputable section

namespace Cert.ReferenceIdeal.Value

open Cert.ReferenceIdeal Cert.ReferenceIdeal.Gen Idealize.ShloMosaic Idealize.ShloMosaic.StableHlo Idealize.ShloMosaic.TcCoe Cert.Maths

/-! ## The padded stream -/

/-- A sequence with three zeros in front. -/
def pad (p : Fin 2048 → EReal) (r : Fin 2051) : EReal := if h : 3 ≤ r.val ∧ r.val - 3 < 2048 then p ⟨r.val - 3, h.2⟩ else 0

/-- Row `3 - k` further on it holds what the sequence held `k` rows back. -/
theorem pad_back (p : Fin 2048 → EReal) (t : Fin 2048) (k : ℕ) (hk : k ≤ 3) (r : Fin 2051) (hr : r.val + k = 3 + t.val) : pad p r = back p t k := by
  unfold pad back
  by_cases h : t.val < k
  · rw [dif_pos h, dif_neg (by omega)]
  · rw [dif_neg h, dif_pos (by omega)]
    exact congrArg p (Fin.ext (by show r.val - 3 = t.val - k; omega))

theorem back_zero (p : Fin 2048 → EReal) (t : Fin 2048) : back p t 0 = p t := by
  unfold back
  rw [dif_neg (by omega)]
  rfl

/-- The word zero as a number. -/
theorem zero_word : FloatOps.sitofp (F := Ideal) .f32 (constantI S_ 32 0#32 (Shape.Idx.first h_S_)) = (0 : EReal) := by
  show (((0#32 : BitVec 32).toInt : ℝ) : EReal) = 0
  simp

section

variable (V0 : Valuation τ sig (Elt Ideal))

/-! ## The contents after each stretch before the loop -/

abbrev after1 : Valuation τ sig (Elt Ideal) := StableHlo.after hostOps0 V0
abbrev after2 : Valuation τ sig (Elt Ideal) := StableHlo.after hostOps0_1 (after1 V0)
abbrev after3 : Valuation τ sig (Elt Ideal) := StableHlo.after hostOps0_2 (after2 V0)
abbrev after4 : Valuation τ sig (Elt Ideal) := StableHlo.after hostOps0_3 (after3 V0)
abbrev after5 : Valuation τ sig (Elt Ideal) := StableHlo.after hostOps0_4 (after4 V0)
abbrev after6 : Valuation τ sig (Elt Ideal) := StableHlo.after hostOps0_5 (after5 V0)
abbrev after7 : Valuation τ sig (Elt Ideal) := StableHlo.after hostOps0_6 (after6 V0)

/-! The arguments are as they were. -/

section

variable {r : Ref sig .tc} (hr : r ∈ argRefs)

include hr

theorem args1 : after1 V0 (Proc.devRef .tc r) = V0 (Proc.devRef .tc r) := keepsArgs_of hostOps0_writes (by decide) _ r hr
theorem args2 : after2 V0 (Proc.devRef .tc r) = V0 (Proc.devRef .tc r) := (keepsArgs_of hostOps0_1_writes (by decide) _ r hr).trans (args1 V0 hr)
theorem args3 : after3 V0 (Proc.devRef .tc r) = V0 (Proc.devRef .tc r) := (keepsArgs_of hostOps0_2_writes (by decide) _ r hr).trans (args2 V0 hr)
theorem args4 : after4 V0 (Proc.devRef .tc r) = V0 (Proc.devRef .tc r) := (keepsArgs_of hostOps0_3_writes (by decide) _ r hr).trans (args3 V0 hr)
theorem args5 : after5 V0 (Proc.devRef .tc r) = V0 (Proc.devRef .tc r) := (keepsArgs_of hostOps0_4_writes (by decide) _ r hr).trans (args4 V0 hr)
theorem args6 : after6 V0 (Proc.devRef .tc r) = V0 (Proc.devRef .tc r) := (keepsArgs_of hostOps0_5_writes (by decide) _ r hr).trans (args5 V0 hr)
theorem args7 : after7 V0 (Proc.devRef .tc r) = V0 (Proc.devRef .tc r) := (keepsArgs_of hostOps0_6_writes (by decide) _ r hr).trans (args6 V0 hr)

end

/-! ## The stream -/

/-- The convolved stream of the arguments. -/
abbrev refStream : Fin 4 → Fin 2048 → Fin 2048 → EReal := stream (inX V0) (inWin V0) (inTaps V0) (inTapBias V0)

theorem padded (b : Fin 4) (d : Fin 2048) (r : Fin 2051) :
    after2 V0 (Proc.devRef .tc main_v3) (ix3 b r d) = pad (proj (inX V0) (inWin V0) b ⟨d.val, by omega⟩) r := by
  refine (at_v3 (after1 V0) b d r).trans ?_
  unfold pad
  by_cases h : 3 ≤ r.val ∧ r.val - 3 < 2048
  · rw [dif_pos h, dif_pos h]; exact at_v1 V0 b _ d
  · rw [dif_neg h, dif_neg h, show after1 V0 (Proc.devRef .tc main_c) = constantI S_ 32 0#32 from at_c V0]; exact zero_word

theorem hidden4 : hidden (after4 V0) = refStream V0 := by
  funext b t d
  have e2 : inTaps (after2 V0) = inTaps V0 := by unfold inTaps; rw [args2 V0 (by decide)]
  have e3 : inTapBias (after2 V0) = inTapBias V0 := by unfold inTapBias; rw [args2 V0 (by decide)]
  refine (at_v36 (after3 V0) b t d).trans (congrArg silu ?_)
  refine (at_v35 (after2 V0) b t d _ (padded V0 b d)).trans ?_
  rw [e2, e3, pad_back _ t 3 (by omega) _ (by show t.val + 3 = _; omega), pad_back _ t 2 (by omega) _ (by show 1 + t.val + 2 = _; omega),
    pad_back _ t 1 (by omega) _ (by show 2 + t.val + 1 = _; omega), pad_back _ t 0 (by omega) _ (by show 3 + t.val + 0 = _; omega), back_zero]
  unfold conv4
  exact congrArg (· + _) (congrArg₂ (· + ·) (congrArg₂ (· + ·) (congrArg₂ (· + ·) (mul_comm _ _) (mul_comm _ _)) (mul_comm _ _)) (mul_comm _ _))

/-- The later stretches leave it, and the gate. -/
theorem keep5 {r : Ref sig .tc} (h : r = main_v2 ∨ r = main_v36) : after7 V0 (Proc.devRef .tc r) = after4 V0 (Proc.devRef .tc r) := by
  have h5 : r ∉ hostOps0_4_W := by rcases h with rfl | rfl <;> decide
  have h6 : r ∉ hostOps0_5_W := by rcases h with rfl | rfl <;> decide
  have h7 : r ∉ hostOps0_6_W := by rcases h with rfl | rfl <;> decide
  exact (StableHlo.after_of_writes_sub _ _ hostOps0_6_writes h7).trans
    ((StableHlo.after_of_writes_sub _ _ hostOps0_5_writes h6).trans (StableHlo.after_of_writes_sub _ _ hostOps0_4_writes h5))

theorem keep6 : after6 V0 (Proc.devRef .tc main_v36) = after4 V0 (Proc.devRef .tc main_v36) :=
  (StableHlo.after_of_writes_sub _ _ hostOps0_5_writes (by decide)).trans (StableHlo.after_of_writes_sub _ _ hostOps0_4_writes (by decide))

theorem gate4 : after4 V0 (Proc.devRef .tc main_v2) = after1 V0 (Proc.devRef .tc main_v2) :=
  (StableHlo.after_of_writes_sub _ _ hostOps0_3_writes (by decide)).trans
    ((StableHlo.after_of_writes_sub _ _ hostOps0_2_writes (by decide)).trans (StableHlo.after_of_writes_sub _ _ hostOps0_1_writes (by decide)))

/-! ## What the loop begins with -/

theorem wx4 : inWx (after4 V0) = inWx V0 := by unfold inWx; rw [args4 V0 (by decide)]
theorem wdt4 : inWdt (after4 V0) = inWdt V0 := by unfold inWdt; rw [args4 V0 (by decide)]
theorem bdt4 : inBdt (after4 V0) = inBdt V0 := by unfold inBdt; rw [args4 V0 (by decide)]
theorem log6 : inLog (after6 V0) = inLog V0 := by unfold inLog; rw [args6 V0 (by decide)]

theorem entry_X (b : Fin 4) (t d : Fin 2048) : rowX (after7 V0) b t d = refStream V0 b t d := by
  refine (at_v54_0 (after6 V0) b t d).trans ?_
  rw [keep6]
  exact congrFun (congrFun (congrFun (hidden4 V0) b) t) d

theorem entry_delta (b : Fin 4) (t d : Fin 2048) : rowDelta (after7 V0) b t d = delta (refStream V0) (inWx V0) (inWdt V0) (inBdt V0) b t d := by
  refine (at_v54_1 (after6 V0) b t d).trans ((at_v45 (after5 V0) b t d).trans (congrArg softplus ((at_v44 (after4 V0) b t d).trans ?_)))
  rw [hidden4, wx4, wdt4, bdt4]

theorem entry_in (b : Fin 4) (t : Fin 2048) (n : Fin 16) : rowIn (after7 V0) b t n = xproj (refStream V0) (inWx V0) b t ⟨16 + n.val, by omega⟩ := by
  refine (at_v54_2 (after6 V0) b t n).trans ?_
  refine (congrFun (StableHlo.after_of_writes_sub (r := main_v39) _ (after5 V0) hostOps0_5_writes (by decide)) (ix3 b t n)).trans
    ((at_v39 (after4 V0) b t n).trans ?_)
  rw [hidden4, wx4]

theorem entry_out (b : Fin 4) (t d : Fin 2048) : rowOut (after7 V0) b t d = xproj (refStream V0) (inWx V0) b t ⟨32 + d.val, by omega⟩ := by
  refine (at_v54_3 (after6 V0) b t d).trans ?_
  refine (congrFun (StableHlo.after_of_writes_sub (r := main_v40) _ (after5 V0) hostOps0_5_writes (by decide)) (ix3 b t d)).trans
    ((at_v40 (after4 V0) b t d).trans ?_)
  rw [hidden4, wx4]

theorem entry_rates (d : Fin 2048) (n : Fin 16) : rates (after7 V0) d n = -Ideal.exp (inLog V0 d n) := by
  refine (at_v54_4 (after6 V0) d n).trans ?_
  rw [log6]

/-- The states of the loop are the states of the model, where the logarithms are those of `1 … 16`. -/
theorem rowState_eq (hlog : ∀ d n, inLog V0 d n = Ideal.log ((n.val + 1 : ℝ) : EReal)) (b : Fin 4) (d : Fin 2048) (n : Fin 16) (k : ℕ) :
    rowState (after7 V0) b d n k = state (refStream V0) (inWx V0) (inWdt V0) (inBdt V0) b d n k := by
  unfold rowState state
  refine steps_congr rfl k (fun s _ => ?_) (fun s _ => ?_)
  · unfold rowDecay decay
    rw [entry_delta, entry_rates, hlog, exp_log _ (by positivity), power_exp]
  · unfold rowInput input
    rw [entry_delta, entry_X, entry_in]

end

/-! ## Through the loop and out of it -/

variable (m : (ℓ : Loc nD τ sig) → Buf (Elt Ideal) ℓ) (c : Dev nD)

/-- What the stretches after the loop read and the loop does not touch. -/
abbrev outside : List (Ref sig .tc) := [main_v2, main_v36, main_arg8, main_arg9]

theorem trip_outside (V : Valuation τ sig (Elt Ideal)) {r : Ref sig .tc} (hr : r ∈ outside) :
    afterL bodyI (StableHlo.after condOps V) (Proc.devRef .tc r) = V (Proc.devRef .tc r) := by
  have h0 : ∀ r ∈ outside, r ∉ while0Ops0_W := by decide
  have h1 : ∀ r ∈ outside, r ∉ while0Ops0_1_W := by decide
  have h2 : ∀ r ∈ outside, r ∉ while0Ops0_2_W := by decide
  have h3 : ∀ r ∈ outside, r ∉ while0Ops0_3_W := by decide
  have h4 : ∀ r ∈ outside, r ∉ while0Ops0_4_W := by decide
  have h5 : ∀ r ∈ outside, r ∉ while0Ops0_5_W := by decide
  have h6 : ∀ r ∈ outside, r ∉ while0Ops0_6_W := by decide
  have hc : ∀ r ∈ outside, r ∉ condOps_W := by decide
  simp only [bodyI, afterL_cons, afterL_nil]
  rw [StableHlo.after_of_writes_sub _ _ while0Ops0_6_writes (h6 r hr), StableHlo.after_of_writes_sub _ _ while0Ops0_5_writes (h5 r hr),
    StableHlo.after_of_writes_sub _ _ while0Ops0_4_writes (h4 r hr), StableHlo.after_of_writes_sub _ _ while0Ops0_3_writes (h3 r hr),
    StableHlo.after_of_writes_sub _ _ while0Ops0_2_writes (h2 r hr), StableHlo.after_of_writes_sub _ _ while0Ops0_1_writes (h1 r hr),
    StableHlo.after_of_writes_sub _ _ while0Ops0_writes (h0 r hr), StableHlo.after_of_writes_sub _ _ condOps_writes (hc r hr)]

theorem trips_outside {r : Ref sig .tc} (hr : r ∈ outside) : ∀ k, atK m k c (Proc.devRef .tc r) = after7 (launchContents m c) (Proc.devRef .tc r)
  | 0 => rfl
  | k + 1 => (trip_outside (atK m k c) hr).trans (trips_outside hr k)

/-- The contents when the loop is left. -/
abbrev left : Valuation τ sig (Elt Ideal) := StableHlo.after condOps (atK m 2048 c)

theorem left_outside {r : Ref sig .tc} (hr : r ∈ outside) : left m c (Proc.devRef .tc r) = after7 (launchContents m c) (Proc.devRef .tc r) := by
  have hc : ∀ r ∈ outside, r ∉ condOps_W := by decide
  exact (StableHlo.after_of_writes_sub _ _ condOps_writes (hc r hr)).trans (trips_outside m c hr 2048)

/-- The rows the loop wrote. -/
theorem left_rows (b : Fin 4) (t d : Fin 2048) : scanned (left m c) b t d
    = (∑ n : Fin 16, rowState (after7 (launchContents m c)) b d n (t.val + 1)) * rowOut (after7 (launchContents m c)) b t d := by
  have e : left m c (Proc.devRef .tc main_v54_7) = STEP^[2048] (entryContents preI m c) (Proc.devRef .tc main_v54_7) :=
    (StableHlo.after_of_writes_sub _ _ condOps_writes (by decide)).trans (atK_agree m c 2048 main_v54_7 (by decide))
  have hc : ∀ k, AtTrip (STEP^[k] (entryContents preI m c)) k := fun k => (atK_agree m c k main_v54_5 (by decide)).symm.trans (atK_ctr m c k)
  have h := (trips (entryContents preI m c) hc (fun b d n => at_v54_6 (after6 (launchContents m c)) b d n) 2048 le_rfl).2 b t d t.isLt
  unfold scanned
  rw [e]
  exact h

/-- The result at an entry. -/
theorem result_at (hlog : ∀ d n, inLog (launchContents m c) d n = Ideal.log ((n.val + 1 : ℝ) : EReal)) (b : Fin 4) (t : Fin 2048) (e : Fin 1024) :
    finalContents condOps preI bodyI postI 2048 m c (Proc.devRef .tc main_v62) (ix3 b t e)
      = block (inX (launchContents m c)) (inWin (launchContents m c)) (inTaps (launchContents m c)) (inTapBias (launchContents m c))
          (inWx (launchContents m c)) (inWdt (launchContents m c)) (inBdt (launchContents m c)) (inD (launchContents m c)) (inWout (launchContents m c)) b t e := by
  have hD : inD (left m c) = inD (launchContents m c) := by
    unfold inD; rw [left_outside m c (by decide), args7 _ (by decide)]
  have hW : inWout (StableHlo.after hostOps0_8 (StableHlo.after hostOps0_7 (left m c))) = inWout (launchContents m c) := by
    unfold inWout
    rw [StableHlo.after_of_writes_sub _ _ hostOps0_8_writes (by decide), StableHlo.after_of_writes_sub _ _ hostOps0_7_writes (by decide),
      left_outside m c (by decide), args7 _ (by decide)]
  have hS : hidden (left m c) = refStream (launchContents m c) := by
    rw [← hidden4]; unfold hidden; rw [left_outside m c (by decide), keep5 _ (.inr rfl)]
  refine (at_v62 (StableHlo.after hostOps0_8 (StableHlo.after hostOps0_7 (left m c))) b t e).trans ?_
  rw [hW]
  have key (d : Fin 2048) : mixed (StableHlo.after hostOps0_8 (StableHlo.after hostOps0_7 (left m c))) b t d
        * gating (StableHlo.after hostOps0_8 (StableHlo.after hostOps0_7 (left m c))) b t d
      = gated (refStream (launchContents m c)) (gate (inX (launchContents m c)) (inWin (launchContents m c))) (inWx (launchContents m c))
          (inWdt (launchContents m c)) (inBdt (launchContents m c)) (inD (launchContents m c)) b t d := by
    refine congrArg₂ (· * ·) ?_ ?_
    · show StableHlo.after hostOps0_8 (StableHlo.after hostOps0_7 (left m c)) (Proc.devRef .tc main_v59) (ix3 b t d) = _
      rw [StableHlo.after_of_writes_sub _ _ hostOps0_8_writes (by decide), at_v59, hD, hS, left_rows, entry_out]
      simp only [rowState_eq _ hlog]
    · refine (at_v60 (StableHlo.after hostOps0_7 (left m c)) b t d).trans (congrArg silu ?_)
      rw [StableHlo.after_of_writes_sub _ _ hostOps0_7_writes (by decide), left_outside m c (by decide), keep5 _ (.inl rfl), gate4]
      exact at_v2 _ b t d
  simp only [key]
  rfl

end Cert.ReferenceIdeal.Value

end
-- ==== Proof.Algebraic.lean ====
module

public import proofs.«01_k».proof.Proof.Frames
public import proofs.«01_k».proof.Proof.KernelValue
public import proofs.«01_k».proof.Proof.RefValue

/-! # The kernel and the reference agree

Over the extended reals, where the matrix of logarithms is the one the model draws, both end with the block of their arguments. -/

@[expose] public section

set_option maxRecDepth 65536

noncomputable section

namespace Cert.Proof

open Idealize.ShloMosaic Idealize.ShloMosaic.TcCoe Idealize.SL.Sem Cert.Maths

/-- The one broadcast of the precondition fits. -/
theorem drawnFacts : Cert.Pre_a_log_as_drawn.Facts := ⟨by decide⟩

open Cert.Pre_a_log_as_drawn in
/-- Where the precondition is all ones, entry `(d, n)` of the matrix is the logarithm of `n + 1`. -/
theorem log_drawn (a0 : FVec Ideal S4x2048x1024 .f32) (a1 : FVec Ideal S4096x1024 .f32) (a2 : FVec Ideal S2048x1x4 .f32) (a3 : FVec Ideal S2048 .f32)
    (a4 : FVec Ideal S2080x2048 .f32) (a5 : FVec Ideal S2048x16 .f32) (a6 : FVec Ideal S2048 .f32) (a7 : FVec Ideal S2048x16 .f32)
    (a8 : FVec Ideal S2048 .f32) (a9 : FVec Ideal S1024x2048 .f32)
    (h : @Cert.Pre_a_log_as_drawn.fn drawnFacts Ideal _ a0 a1 a2 a3 a4 a5 a6 a7 a8 a9 = fun _ => 1#1) (d : Fin 2048) (n : Fin 16) :
    a7 (ix2 d n) = Ideal.log ((n.val + 1 : ℝ) : EReal) := by
  have e := congrFun h (ix2 d n)
  revert e
  unfold Cert.Pre_a_log_as_drawn.fn
  pointwise
  intro e
  have e' : a7 (ix2 d n) = Ideal.log (FloatOps.sitofp (F := Ideal) FTy.f32 (IntOp.addi (BitVec.ofNat 32 n.val) 1#32)) := by
    by_contra hne
    rw [decide_eq_false hne] at e
    exact absurd e (by decide)
  have hw : ∀ n : Fin 16, (BitVec.ofNat 32 n.val + 1#32).toInt = (n.val : ℤ) + 1 := by decide
  rw [e']
  refine congrArg Ideal.log ?_
  show (((BitVec.ofNat 32 n.val + 1#32).toInt : ℝ) : EReal) = _
  rw [hw n]
  push_cast
  rfl

/-- The kernel and the reference end with the same array. -/
theorem algebraic : @Cert.algebraic_KernelIdeal_ReferenceIdeal_pre_a_log_as_drawn Cert.KernelIdeal.Gen.facts Cert.ReferenceIdeal.Gen.facts drawnFacts := by
  intro m g m' g' hpre hin
  refine ⟨fun c => Cert.KernelIdeal.Gen.kernelBlock m c, ?_, ?_⟩
  · refine (θ_run Cert.KernelIdeal.defs _ _).mono (fun r h c => ?_) (Cert.KernelIdeal.Gen.run_all m g)
    have arg (a : Ref Cert.KernelIdeal.sig .tc) (hs : ¬ (Proc.devRef .tc a : DevRef Cert.KernelIdeal.τ Cert.KernelIdeal.sig).isScoped)
        (ha : a ∈ Cert.KernelIdeal.Gen.argRefs) : r.2.mem ((c.tc : Thread Cert.KernelIdeal.nD Cert.KernelIdeal.τ).loc a) = m ((c.tc : Thread _ _).loc a) :=
      (h.1 c _ (Cert.KernelIdeal.Gen.mem_uc a hs)).trans (Cert.KernelIdeal.Gen.W5_args m g c a ha)
    exact ⟨(h.1 c _ (Cert.KernelIdeal.Gen.mem_uc Cert.KernelIdeal.main_v0 (by decide))).trans (Cert.KernelIdeal.Gen.result_val m g c),
      arg _ (by decide) (by decide), arg _ (by decide) (by decide), arg _ (by decide) (by decide), arg _ (by decide) (by decide), arg _ (by decide) (by decide),
      arg _ (by decide) (by decide), arg _ (by decide) (by decide), arg _ (by decide) (by decide), arg _ (by decide) (by decide), arg _ (by decide) (by decide)⟩
  · refine (θ_run Cert.ReferenceIdeal.defs _ _).mono (fun r h c => ⟨(h.1 c).1.trans ?_, (h.1 c).2⟩) (Cert.ReferenceIdeal.Value.run_result m' g')
    obtain ⟨h0, h1, h2, h3, h4, h5, h6, h7, h8, h9⟩ := hin c
    have hlog (d : Fin 2048) (n : Fin 16) :
        Cert.ReferenceIdeal.Value.inLog (StableHlo.launchContents m' c) d n = Ideal.log ((n.val + 1 : ℝ) : EReal) :=
      (congrFun h7 (ix2 d n)).trans (log_drawn _ _ _ _ _ _ _ _ _ _ (hpre c) d n)
    funext i
    have hi : i = ix3 (i 0) (i 1) (i 2) := by
      funext a
      match a with
      | 0 => rfl
      | 1 => rfl
      | 2 => rfl
    refine (congrArg _ hi).trans ((Cert.ReferenceIdeal.Value.result_at m' c hlog (i 0) (i 1) (i 2)).trans ?_)
    show _ = block _ _ _ _ _ _ _ _ _ (i 0) (i 1) (i 2)
    have eX : Cert.ReferenceIdeal.Value.inX (StableHlo.launchContents m' c) = Cert.KernelIdeal.Gen.argX m c := by
      funext b t k; exact congrFun h0 (ix3 b t k)
    have eWin : Cert.ReferenceIdeal.Value.inWin (StableHlo.launchContents m' c) = Cert.KernelIdeal.Gen.argWin m c := by
      funext e k; exact congrFun h1 (ix2 e k)
    have eTaps : Cert.ReferenceIdeal.Value.inTaps (StableHlo.launchContents m' c) = Cert.KernelIdeal.Gen.argTaps m c := by
      funext d k; exact congrFun h2 (ix3 d (0 : Fin 1) k)
    have eTapBias : Cert.ReferenceIdeal.Value.inTapBias (StableHlo.launchContents m' c) = Cert.KernelIdeal.Gen.argTapBias m c := by
      funext d; exact congrFun h3 (ix1 d)
    have eWx : Cert.ReferenceIdeal.Value.inWx (StableHlo.launchContents m' c) = Cert.KernelIdeal.Gen.argWx m c := by
      funext e k; exact congrFun h4 (ix2 e k)
    have eWdt : Cert.ReferenceIdeal.Value.inWdt (StableHlo.launchContents m' c) = Cert.KernelIdeal.Gen.argWdt m c := by
      funext d n; exact congrFun h5 (ix2 d n)
    have eBdt : Cert.ReferenceIdeal.Value.inBdt (StableHlo.launchContents m' c) = Cert.KernelIdeal.Gen.argBdt m c := by
      funext d; exact congrFun h6 (ix1 d)
    have eD : Cert.ReferenceIdeal.Value.inD (StableHlo.launchContents m' c) = Cert.KernelIdeal.Gen.argD m c := by
      funext d; exact congrFun h8 (ix1 d)
    have eWout : Cert.ReferenceIdeal.Value.inWout (StableHlo.launchContents m' c) = Cert.KernelIdeal.Gen.argWout m c := by
      funext e d; exact congrFun h9 (ix2 e d)
    rw [eX, eWin, eTaps, eTapBias, eWx, eWdt, eBdt, eD, eWout]

end Cert.Proof

end
-- ==== Proof.lean ====
/- The claims, together. -/
module

public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, drawnFacts, frame_Kernel, frame_KernelIdeal,
    fun m g _ => frame_KernelIdeal m g trivial, frame_ReferenceIdeal, fun m g _ => frame_ReferenceIdeal m g trivial, trivial, algebraic⟩

end Cert.Proof

end
